-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_parameters [hPre_finite_parameters : Cert.Pre_finite_parameters.Facts] (m : (ℓ : Loc Cert.KernelIdeal.nD Cert.KernelIdeal.τ Cert.KernelIdeal.sig) → Buf (Elt Ideal) ℓ) : Prop :=
  ∀ c : Dev Cert.KernelIdeal.nD,
    (Cert.Pre_finite_parameters.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_parameters [hPre_finite_parameters : Cert.Pre_finite_parameters.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_parameters.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_parameters [hKernelIdeal : Cert.KernelIdeal.Facts] [hPre_finite_parameters : Cert.Pre_finite_parameters.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_parameters m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_parameters [hReferenceIdeal : Cert.ReferenceIdeal.Facts] [hPre_finite_parameters : Cert.Pre_finite_parameters.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_parameters m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def preserves_Kernel_KernelIdeal : Prop :=
  True

def algebraic_KernelIdeal_ReferenceIdeal_pre_finite_parameters [hKernelIdeal : Cert.KernelIdeal.Facts] [hReferenceIdeal : Cert.ReferenceIdeal.Facts] [hPre_finite_parameters : Cert.Pre_finite_parameters.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_parameters m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v30) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpRefIdeal : Cert.MlpRefIdeal.Facts) (hPre_finite_parameters : Cert.Pre_finite_parameters.Facts),
    quiescent_Kernel (hKernel := hKernel)
    ∧ quiescent_KernelIdeal (hKernelIdeal := hKernelIdeal)
    ∧ quiescent_KernelIdeal_pre_finite_parameters (hKernelIdeal := hKernelIdeal) (hPre_finite_parameters := hPre_finite_parameters)
    ∧ quiescent_ReferenceIdeal (hReferenceIdeal := hReferenceIdeal)
    ∧ quiescent_ReferenceIdeal_pre_finite_parameters (hReferenceIdeal := hReferenceIdeal) (hPre_finite_parameters := hPre_finite_parameters)
    ∧ quiescent_Mlp (hMlp := hMlp)
    ∧ quiescent_MlpIdeal (hMlpIdeal := hMlpIdeal)
    ∧ quiescent_MlpRefIdeal (hMlpRefIdeal := hMlpRefIdeal)
    ∧ preserves_Kernel_KernelIdeal
    ∧ algebraic_KernelIdeal_ReferenceIdeal_pre_finite_parameters (hKernelIdeal := hKernelIdeal) (hReferenceIdeal := hReferenceIdeal) (hPre_finite_parameters := hPre_finite_parameters)
    ∧ preserves_Mlp_MlpIdeal
    ∧ algebraic_MlpIdeal_MlpRefIdeal (hMlpIdeal := hMlpIdeal) (hMlpRefIdeal := hMlpRefIdeal)
-- ==== Pre_finite_parameters.lean ====
abbrev S4096x2048 : Shape := ⟨2, ![4096, 2048]⟩
abbrev S32x64x64 : Shape := ⟨3, ![32, 64, 64]⟩
abbrev S2048x2048 : Shape := ⟨2, ![2048, 2048]⟩
abbrev S32x64 : Shape := ⟨2, ![32, 64]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg6 : FVec F S2048 .f32) (main_arg7 : FVec F S2048 .f32) (main_v3 : IVec S_ 1) (main_v7 : IVec S_ 1) (main_v11 : IVec S_ 1) (main_v15 : IVec S_ 1) : IVec S_ 1 :=
  let main_v16 : FVec F S2048 .f32 := Host.absf main_arg6
  let main_cst_6 : FVec F S_ .f32 := constant S_ .f32 0x7F800000#32
  let main_v17 : FVec F S2048 .f32 := broadcastInDim S2048 ![] bcast_S_S2048 main_cst_6
  let main_v18 : IVec S2048 1 := cmpf .olt main_v16 main_v17
  let main_c_7 : IVec S_ 1 := constantI S_ 1 1#1
  let main_v19 : IVec S_ 1 := (fun x v => Host.reduce IntOp.andi x v reducesTo_S2048_S_d0 h_S_) main_v18 main_c_7
  let main_v20 : FVec F S2048 .f32 := Host.absf main_arg7
  let main_cst_8 : FVec F S_ .f32 := constant S_ .f32 0x7F800000#32
  let main_v21 : FVec F S2048 .f32 := broadcastInDim S2048 ![] bcast_S_S2048 main_cst_8
  let main_v22 : IVec S2048 1 := cmpf .olt main_v20 main_v21
  let main_c_9 : IVec S_ 1 := constantI S_ 1 1#1
  let main_v23 : IVec S_ 1 := (fun x v => Host.reduce IntOp.andi x v reducesTo_S2048_S_d0 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S4096x2048 .f32) (main_arg1 : FVec F S32x64x64 .f32) (main_arg2 : FVec F S2048x2048 .f32) (main_arg3 : FVec F S2048x2048 .f32) (main_arg4 : FVec F S2048x2048 .f32) (main_arg5 : FVec F S32x64 .f32) (main_arg6 : FVec F S2048 .f32) (main_arg7 : FVec F S2048 .f32) : IVec S_ 1 :=
  let main_v0 : FVec F S2048x2048 .f32 := Host.absf main_arg2
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg3
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : FVec F S2048x2048 .f32 := Host.absf main_arg4
  let main_cst_2 : FVec F S_ .f32 := constant S_ .f32 0x7F800000#32
  let main_v9 : FVec F S2048x2048 .f32 := broadcastInDim S2048x2048 ![] bcast_S_S2048x2048 main_cst_2
  let main_v10 : IVec S2048x2048 1 := cmpf .olt main_v8 main_v9
  let main_c_3 : IVec S_ 1 := constantI S_ 1 1#1
  let main_v11 : IVec S_ 1 := (fun x v => Host.reduce IntOp.andi x v reducesTo_S2048x2048_S_d0_1 h_S_) main_v10 main_c_3
  let main_v12 : FVec F S32x64 .f32 := Host.absf main_arg5
  let main_cst_4 : FVec F S_ .f32 := constant S_ .f32 0x7F800000#32
  let main_v13 : FVec F S32x64 .f32 := broadcastInDim S32x64 ![] bcast_S_S32x64 main_cst_4
  let main_v14 : IVec S32x64 1 := cmpf .olt main_v12 main_v13
  let main_c_5 : IVec S_ 1 := constantI S_ 1 1#1
  let main_v15 : IVec S_ 1 := (fun x v => Host.reduce IntOp.andi x v reducesTo_S32x64_S_d0_1 h_S_) main_v14 main_c_5
  fn_part1 (F := F) main_arg6 main_arg7 main_v3 main_v7 main_v11 main_v15
-- ==== Kernel.lean ====
abbrev S4096x2048 : Shape := ⟨2, ![4096, 2048]⟩
abbrev S32x64x64 : Shape := ⟨3, ![32, 64, 64]⟩
abbrev S2048x2048 : Shape := ⟨2, ![2048, 2048]⟩
abbrev S32x64 : Shape := ⟨2, ![32, 64]⟩
abbrev S2048 : Shape := ⟨1, ![2048]⟩
abbrev S1x2048 : Shape := ⟨2, ![1, 2048]⟩
abbrev S2048x1 : Shape := ⟨2, ![2048, 1]⟩
abbrev S_ : Shape := ⟨0, ![]⟩
abbrev S32 : Shape := ⟨1, ![32]⟩
abbrev S1x32 : Shape := ⟨2, ![1, 32]⟩
abbrev S2048x32 : Shape := ⟨2, ![2048, 32]⟩
abbrev S32x1 : Shape := ⟨2, ![32, 1]⟩
abbrev S32x2048 : Shape := ⟨2, ![32, 2048]⟩
abbrev S32x64x1 : Shape := ⟨3, ![32, 64, 1]⟩
abbrev S2048x6144 : Shape := ⟨2, ![2048, 6144]⟩
abbrev S512x2048 : Shape := ⟨2, ![512, 2048]⟩
abbrev S512x6144 : Shape := ⟨2, ![512, 6144]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩
abbrev S256x256 : Shape := ⟨2, ![256, 256]⟩
abbrev S256x1 : Shape := ⟨2, ![256, 1]⟩
abbrev S256x2048 : Shape := ⟨2, ![256, 2048]⟩
abbrev S256x32 : Shape := ⟨2, ![256, 32]⟩
abbrev S256x64 : Shape := ⟨2, ![256, 64]⟩
abbrev S1x64x64 : Shape := ⟨3, ![1, 64, 64]⟩
abbrev S64x64 : Shape := ⟨2, ![64, 64]⟩

abbrev nBuf : Space → Nat
  | .hbm => 73
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S32x64x64, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S32x64, .f32⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S2048, .i32⟩
  | .hbm, ⟨12, _⟩ => ⟨S2048x1, .i32⟩
  | .hbm, ⟨13, _⟩ => ⟨S_, .i32⟩
  | .hbm, ⟨14, _⟩ => ⟨S_, .i32⟩
  | .hbm, ⟨15, _⟩ => ⟨S2048x1, .i32⟩
  | .hbm, ⟨16, _⟩ => ⟨S2048x1, .i32⟩
  | .hbm, ⟨17, _⟩ => ⟨S2048x1, .i32⟩
  | .hbm, ⟨18, _⟩ => ⟨S_, .i32⟩
  | .hbm, ⟨19, _⟩ => ⟨S2048x1, .i32⟩
  | .hbm, ⟨20, _⟩ => ⟨S2048x1, .i1⟩
  | .hbm, ⟨21, _⟩ => ⟨S2048x1, .i32⟩
  | .hbm, ⟨22, _⟩ => ⟨S2048x1, .i32⟩
  | .hbm, ⟨23, _⟩ => ⟨S_, .i32⟩
  | .hbm, ⟨24, _⟩ => ⟨S2048x1, .i32⟩
  | .hbm, ⟨25, _⟩ => ⟨S2048x1, .i1⟩
  | .hbm, ⟨26, _⟩ => ⟨S2048x1, .i1⟩
  | .hbm, ⟨27, _⟩ => ⟨S_, .i32⟩
  | .hbm, ⟨28, _⟩ => ⟨S2048x1, .i32⟩
  | .hbm, ⟨29, _⟩ => ⟨S2048x1, .i32⟩
  | .hbm, ⟨30, _⟩ => ⟨S2048x1, .i32⟩
  | .hbm, ⟨31, _⟩ => ⟨S32, .i32⟩
  | .hbm, ⟨32, _⟩ => ⟨S1x32, .i32⟩
  | .hbm, ⟨33, _⟩ => ⟨S2048x32, .i32⟩
  | .hbm, ⟨34, _⟩ => ⟨S2048x32, .i32⟩
  | .hbm, ⟨35, _⟩ => ⟨S2048x32, .i1⟩
  | .hbm, ⟨36, _⟩ => ⟨S2048x32, .bf16⟩
  | .hbm, ⟨37, _⟩ => ⟨S32, .i32⟩
  | .hbm, ⟨38, _⟩ => ⟨S32x1, .i32⟩
  | .hbm, ⟨39, _⟩ => ⟨S1x2048, .i32⟩
  | .hbm, ⟨40, _⟩ => ⟨S_, .i32⟩
  | .hbm, ⟨41, _⟩ => ⟨S_, .i32⟩
  | .hbm, ⟨42, _⟩ => ⟨S1x2048, .i32⟩
  | .hbm, ⟨43, _⟩ => ⟨S1x2048, .i32⟩
  | .hbm, ⟨44, _⟩ => ⟨S1x2048, .i32⟩
  | .hbm, ⟨45, _⟩ => ⟨S_, .i32⟩
  | .hbm, ⟨46, _⟩ => ⟨S1x2048, .i32⟩
  | .hbm, ⟨47, _⟩ => ⟨S1x2048, .i1⟩
  | .hbm, ⟨48, _⟩ => ⟨S1x2048, .i32⟩
  | .hbm, ⟨49, _⟩ => ⟨S1x2048, .i32⟩
  | .hbm, ⟨50, _⟩ => ⟨S_, .i32⟩
  | .hbm, ⟨51, _⟩ => ⟨S1x2048, .i32⟩
  | .hbm, ⟨52, _⟩ => ⟨S1x2048, .i1⟩
  | .hbm, ⟨53, _⟩ => ⟨S1x2048, .i1⟩
  | .hbm, ⟨54, _⟩ => ⟨S_, .i32⟩
  | .hbm, ⟨55, _⟩ => ⟨S1x2048, .i32⟩
  | .hbm, ⟨56, _⟩ => ⟨S1x2048, .i32⟩
  | .hbm, ⟨57, _⟩ => ⟨S1x2048, .i32⟩
  | .hbm, ⟨58, _⟩ => ⟨S32x2048, .i32⟩
  | .hbm, ⟨59, _⟩ => ⟨S32x2048, .i32⟩
  | .hbm, ⟨60, _⟩ => ⟨S32x2048, .i1⟩
  | .hbm, ⟨61, _⟩ => ⟨S32x2048, .bf16⟩
  | .hbm, ⟨62, _⟩ => ⟨S_, .f32⟩
  | .hbm, ⟨63, _⟩ => ⟨S32x64, .f32⟩
  | .hbm, ⟨64, _⟩ => ⟨S32x64, .f32⟩
  | .hbm, ⟨65, _⟩ => ⟨S32x64x1, .f32⟩
  | .hbm, ⟨66, _⟩ => ⟨S32x64x64, .f32⟩
  | .hbm, ⟨67, _⟩ => ⟨S2048x2048, .bf16⟩
  | .hbm, ⟨68, _⟩ => ⟨S2048x2048, .bf16⟩
  | .hbm, ⟨69, _⟩ => ⟨S2048x2048, .bf16⟩
  | .hbm, ⟨70, _⟩ => ⟨S2048x6144, .bf16⟩
  | .hbm, ⟨71, _⟩ => ⟨S4096x2048, .f32⟩
  | .hbm, ⟨72, _⟩ => ⟨S32x64x64, .f32⟩
  | .local _ .vmem, ⟨0, _⟩ => ⟨S512x2048, .f32⟩
  | .local _ .vmem, ⟨1, _⟩ => ⟨S512x2048, .f32⟩
  | .local _ .vmem, ⟨2, _⟩ => ⟨S2048x6144, .bf16⟩
  | .local _ .vmem, ⟨3, _⟩ => ⟨S1x2048, .f32⟩
  | .local _ .vmem, ⟨4, _⟩ => ⟨S1x2048, .f32⟩
  | .local _ .vmem, ⟨5, _⟩ => ⟨S2048x32, .bf16⟩
  | .local _ .vmem, ⟨6, _⟩ => ⟨S32x2048, .bf16⟩
  | .local _ .vmem, ⟨7, _⟩ => ⟨S1x2048, .f32⟩
  | .local _ .vmem, ⟨8, _⟩ => ⟨S32x64x64, .f32⟩
  | .local _ .vmem, ⟨9, _⟩ => ⟨S32x64x64, .f32⟩
  | .local _ .vmem, ⟨10, _⟩ => ⟨S512x2048, .f32⟩
  | .local _ .vmem, ⟨11, _⟩ => ⟨S512x2048, .f32⟩
  | .local _ .vmem, ⟨12, _⟩ => ⟨S32x64x64, .f32⟩
  | .local _ .vmem, ⟨13, _⟩ => ⟨S512x2048, .bf16⟩
  | .local _ .vmem, ⟨14, _⟩ => ⟨S512x6144, .bf16⟩
  | .local _ .vmem, ⟨15, _⟩ => ⟨S32x64x64, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_c : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_0 : Ref sig .tc := ⟨.hbm, 54, rfl⟩
abbrev main_call1_v12 : Ref sig .tc := ⟨.hbm, 55, rfl⟩
abbrev main_call1_v13 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_cst : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28_0 : Ref sig .tc := ⟨.hbm, 71, rfl⟩
abbrev main_v28_1 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v1457 : BitVec 1 := Scalar.cmpi .eq arg0 c7_i32
  let v1458 : BitVec 32 := Scalar.extui v1457
  let c0_i32_968 : BitVec 32 := 0#32
  let v1459 : BitVec 1 := Scalar.cmpi .ne v1458 c0_i32_968
  v1459

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S32x64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x2048 : Shape := ⟨2, ![4096, 2048]⟩
abbrev S32x64x64 : Shape := ⟨3, ![32, 64, 64]⟩
abbrev S2048x2048 : Shape := ⟨2, ![2048, 2048]⟩
abbrev S32x64 : Shape := ⟨2, ![32, 64]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S4096x32x64 : Shape := ⟨3, ![4096, 32, 64]⟩
abbrev S1x32x64x1 : Shape := ⟨4, ![1, 32, 64, 1]⟩
abbrev S4096x32x64x1 : Shape := ⟨4, ![4096, 32, 64, 1]⟩
abbrev S4096x32x1x64 : Shape := ⟨4, ![4096, 32, 1, 64]⟩
abbrev S4096x32x64x64 : Shape := ⟨4, ![4096, 32, 64, 64]⟩
abbrev S1x32x64x64 : Shape := ⟨4, ![1, 32, 64, 64]⟩

abbrev nBuf : Space → Nat
  | .hbm => 77
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S32x64x64, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S32x64, .f32⟩
  | .hbm, ⟨6, _⟩ => ⟨S2048, .f32⟩
  | .hbm, ⟨7, _⟩ => ⟨S2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .i32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S4096x2048, .f32⟩
  | .hbm, ⟨45, _⟩ => ⟨S4096x2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x32x64, .f32⟩
  | .hbm, ⟨54, _⟩ => ⟨S4096x2048, .f32⟩
  | .hbm, ⟨55, _⟩ => ⟨S4096x32x64, .f32⟩
  | .hbm, ⟨56, _⟩ => ⟨S4096x2048, .f32⟩
  | .hbm, ⟨57, _⟩ => ⟨S4096x32x64, .f32⟩
  | .hbm, ⟨58, _⟩ => ⟨S1x32x64x1, .f32⟩
  | .hbm, ⟨59, _⟩ => ⟨S4096x32x64x1, .f32⟩
  | .hbm, ⟨60, _⟩ => ⟨S4096x32x1x64, .f32⟩
  | .hbm, ⟨61, _⟩ => ⟨S4096x32x64x64, .f32⟩
  | .hbm, ⟨62, _⟩ => ⟨S4096x32x64x64, .f32⟩
  | .hbm, ⟨63, _⟩ => ⟨S4096x32x64x64, .f32⟩
  | .hbm, ⟨64, _⟩ => ⟨S4096x32x64x64, .f32⟩
  | .hbm, ⟨65, _⟩ => ⟨S4096x32x64x64, .f32⟩
  | .hbm, ⟨66, _⟩ => ⟨S_, .f32⟩
  | .hbm, ⟨67, _⟩ => ⟨S_, .f32⟩
  | .hbm, ⟨68, _⟩ => ⟨S4096x32x64x64, .f32⟩
  | .hbm, ⟨69, _⟩ => ⟨S1x32x64x64, .f32⟩
  | .hbm, ⟨70, _⟩ => ⟨S4096x32x64x64, .f32⟩
  | .hbm, ⟨71, _⟩ => ⟨S4096x32x64x64, .f32⟩
  | .hbm, ⟨72, _⟩ => ⟨S4096x32x64, .f32⟩
  | .hbm, ⟨73, _⟩ => ⟨S4096x2048, .f32⟩
  | .hbm, ⟨74, _⟩ => ⟨S4096x2048, .f32⟩
  | .hbm, ⟨75, _⟩ => ⟨S1x32x64x64, .f32⟩
  | .hbm, ⟨76, _⟩ => ⟨S32x64x64, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_cst_2 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_cst_3 : Ref sig .tc := ⟨.hbm, 32, rfl⟩
abbrev main_call0_v13 : Ref sig .tc := ⟨.hbm, 33, rfl⟩
abbrev main_call0_cst_4 : Ref sig .tc := ⟨.hbm, 34, rfl⟩
abbrev main_call0_call0_v0 : Ref sig .tc := ⟨.hbm, 35, rfl⟩
abbrev main_call0_call0_v1 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_cst_1 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_call1_call0_cst : Ref sig .tc := ⟨.hbm, 66, rfl⟩
abbrev main_call1_call0_v0 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩

abbrev nD : Nat := 1
abbrev τ : Topo := Topo.v7x

variable {F : FTy → Type} [FloatOps F]
-- ==== Mlp.lean ====
abbrev S4096x2048 : Shape := ⟨2, ![4096, 2048]⟩
abbrev S2048x4096 : Shape := ⟨2, ![2048, 4096]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 10
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S2048x4096, .bf16⟩
  | .hbm, ⟨8, _⟩ => ⟨S2048x2048, .bf16⟩
  | .hbm, ⟨9, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S2048x4096, .bf16⟩
  | .local _ .vmem, ⟨3, _⟩ => ⟨S2048x2048, .bf16⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpRefIdeal.lean ====
abbrev S4096x2048 : Shape := ⟨2, ![4096, 2048]⟩
abbrev S2048x4096 : Shape := ⟨2, ![2048, 4096]⟩
abbrev S2048x2048 : Shape := ⟨2, ![2048, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S4096x4096 : Shape := ⟨2, ![4096, 4096]⟩

abbrev nBuf : Space → Nat
  | .hbm => 72
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .i32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x2048, .f32⟩
  | .hbm, ⟨42, _⟩ => ⟨S4096x2048, .f32⟩
  | .hbm, ⟨43, _⟩ => ⟨S1x2048, .f32⟩
  | .hbm, ⟨44, _⟩ => ⟨S4096x2048, .f32⟩
  | .hbm, ⟨45, _⟩ => ⟨S4096x2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S4096x4096, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S4096x2048, .f32⟩
  | .hbm, ⟨56, _⟩ => ⟨S4096x2048, .f32⟩
  | .hbm, ⟨57, _⟩ => ⟨S_, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S_, .f32⟩
  | .hbm, ⟨64, _⟩ => ⟨S4096x2048, .f32⟩
  | .hbm, ⟨65, _⟩ => ⟨S4096x2048, .f32⟩
  | .hbm, ⟨66, _⟩ => ⟨S_, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_cst_2 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_cst_3 : Ref sig .tc := ⟨.hbm, 29, rfl⟩
abbrev main_call0_v13 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst_1 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_cst_2 : Ref sig .tc := ⟨.hbm, 63, rfl⟩
abbrev main_v24 : Ref sig .tc := ⟨.hbm, 64, rfl⟩
abbrev main_v25 : Ref sig .tc := ⟨.hbm, 65, rfl⟩
abbrev main_cst_3 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩

abbrev nD : Nat := 1
abbrev τ : Topo := Topo.v7x

variable {F : FTy → Type} [FloatOps F]
-- ==== Proof.Rows.lean ====
/-
  The mathematics of one row: layer normalisation over 2048 lanes, and the gated feed-forward step on top of it, as
  plain functions of extended reals. Nothing here mentions a program.
-/
module

public import Idealize.ShloMosaic.PureOps.Ideal
public import Idealize.ShloMosaic.Lib.Pointwise

@[expose] public section

noncomputable section

namespace Rows

open Idealize.ShloMosaic

/-- The constant that a row's sum is divided by is 2048. -/
theorem ofBits_2048 : Ideal.ofBits .f32 0x45000000#32 = ((2048 : ℝ) : EReal) := by
  simp [Ideal.ofBits, Ideal.ieee]
  rw [← EReal.coe_mul]
  norm_num

/-- The mean of a row of 2048 numbers: its sum divided by the constant 2048. -/
def mean (f : Fin 2048 → EReal) : EReal := Ideal.div (∑ k, f k) (Ideal.ofBits .f32 0x45000000#32)

/-- The variance of a row: the mean of the squared distances from the row's mean. -/
def var (f : Fin 2048 → EReal) : EReal := mean fun k => (f k - mean f) * (f k - mean f)

/-- Layer normalisation of a row with weight `w` and bias `b`; the constant added to the variance is `1e-5`. -/
def norm (f w b : Fin 2048 → EReal) (j : Fin 2048) : EReal :=
  (f j - mean f) * Ideal.rsqrt (var f + Ideal.ofBits .f32 0x3727C5AC#32) * w j + b j

/-- The gated activation in the one-quotient form: `u` over the product of the two logistic denominators. -/
def act (g u : EReal) : EReal := Ideal.div u ((1 + Ideal.exp (0 - u)) * (1 + Ideal.exp (0 - g)))

/-- `1 + exp (-x)` is not zero: it is at least one. -/
theorem one_add_exp_ne_zero (x : EReal) : 1 + Ideal.exp (-x) ≠ 0 := by
  have h : 0 ≤ Ideal.exp (-x) := by
    induction x with
    | bot => simp
    | top => simp
    | coe r => rw [← EReal.coe_neg, Ideal.exp_coe]; exact_mod_cast (Real.exp_pos _).le
  have h1 : (1 : EReal) ≤ 1 + Ideal.exp (-x) := by
    calc (1 : EReal) = 1 + 0 := (add_zero _).symm
      _ ≤ _ := by gcongr
  exact (lt_of_lt_of_le zero_lt_one h1).ne'

/-- Division by a number other than zero is multiplication by its inverse. -/
theorem div_of_ne_zero {y : EReal} (h : y ≠ 0) (x : EReal) : Ideal.div x y = x * y⁻¹ := if_neg h

/-- The one-quotient form is the product of `u`, its own logistic and the gate's logistic. -/
theorem act_eq (g u : EReal) :
    act g u = u * Ideal.div 1 (1 + Ideal.exp (-u)) * Ideal.div 1 (1 + Ideal.exp (-g)) := by
  have hu := one_add_exp_ne_zero u
  have hg := one_add_exp_ne_zero g
  unfold act
  rw [zero_sub, zero_sub, div_of_ne_zero hu, div_of_ne_zero hg, div_of_ne_zero (mul_ne_zero hu hg),
    one_mul, one_mul, EReal.mul_inv, mul_assoc]

/-- A sum over 2048 positions is the sum of its four quarters. -/
theorem sum_quarters (f : Fin 2048 → EReal) :
    ∑ m, f m = (∑ k : Fin 512, f ⟨k, by omega⟩) + (∑ k : Fin 512, f ⟨512 + k, by omega⟩)
      + (∑ k : Fin 512, f ⟨1024 + k, by omega⟩) + (∑ k : Fin 512, f ⟨1536 + k, by omega⟩) := by
  rw [Fin.sum_univ_two_halves 1536 512 rfl f, Fin.sum_univ_two_halves 1024 512 rfl fun i : Fin 1536 => f ⟨i, by omega⟩,
    Fin.sum_univ_two_halves 512 512 rfl fun i : Fin 1024 => f ⟨i, by omega⟩]

/-- The feed-forward step on one row: the normalised row through the two halves of `Wg`, gated, through `Wd`, added
    to the row it started from. -/
def mlp (y w b : Fin 2048 → EReal) (Wg : Fin 2048 → Fin 4096 → EReal) (Wd : Fin 2048 → Fin 2048 → EReal)
    (j : Fin 2048) : EReal :=
  y j + ∑ m : Fin 2048, act (∑ l, norm y w b l * Wg l ⟨m, by omega⟩) (∑ l, norm y w b l * Wg l ⟨2048 + m, by omega⟩) * Wd m j

end Rows

end
-- ==== Proof.AttnProject.lean ====
/-
  The three projections of one block of the attention kernel: the normalised rows times the columns of the joined
  weights, written in twelve strips of 512 columns and read back as one array.
-/
module

public import proofs.«01_k».proof.Proof.Gen.KernelIdeal.Value
public import proofs.«01_k».proof.Proof.Rows
public import Idealize.ShloMosaic.Lib.Pipeline.ValueKit
public import Idealize.ShloMosaic.Lib.Pipeline.ReadBack
public import Idealize.ShloMosaic.Lib.Pointwise

@[expose] public section

set_option maxRecDepth 16384

noncomputable section

namespace AttnProject

open Cert.KernelIdeal Cert.KernelIdeal.Gen Idealize.ShloMosaic Idealize.ShloMosaic.TcCoe Idealize.SL.Sem

/-- The normalised rows of a block times the joined weights: all 6144 columns. -/
def project (xn : Vec Ideal S512x2048 .bf16) (W : Vec Ideal S2048x6144 .bf16) : Vec Ideal S512x6144 .bf16 := fun i =>
  ∑ l : Fin 2048, xn (ix2 (i 0) l) * W (ix2 l (i 1))

/-- One strip of 512 columns, as the kernel computes it. -/
def strip (xn : Vec Ideal S512x2048 .bf16) (Wc : Vec Ideal S2048x512 .bf16) : FVec Ideal S512x512 .bf16 :=
  shapeCast S512x512 (truncf .bf16 (matmul (F := Ideal) (φ₁ := .bf16) (φ₂ := .bf16) dot_S512x2048_S2048x512_S512x512_1_0_0_1_n_n none xn
    (shapeCast (α := Ideal .bf16) S2048x512 Wc shapeCasts_S2048x512_S2048x512) (constant S512x512 .f32 0x00000000#32)) bitsLt_bf16_f32)
    shapeCasts_S512x512_S512x512

/-- The strip computed from columns `o …` of the weights is the strip at columns `o …` of the whole projection. -/
theorem strip_eq (xn : Vec Ideal S512x2048 .bf16) (W : Vec Ideal S2048x6144 .bf16) (o : ℕ)
    (hW : ∀ a, (![0, o] : Fin 2 → ℕ) a + S2048x512.size a ≤ S2048x6144.size a)
    (hQ : ∀ a, (![0, o] : Fin 2 → ℕ) a + S512x512.size a ≤ S512x6144.size a) :
    strip xn (View.ld W (Rect.unit (s := S2048x6144) ![0, o] S2048x512.size hW))
      = View.ld (project xn W) (Rect.unit (s := S512x6144) ![0, o] S512x512.size hQ) := by
  funext i
  idx_vars i
  pointwise [strip, project, View.ld]

/-- The first strip's stored value, which the program names in two steps. -/
theorem pay7_eq (xn : Vec Ideal S512x2048 .bf16) (Wc : Vec Ideal S2048x512 .bf16) : k0_pay7 (k0_pay6 xn Wc) = strip xn Wc := rfl

/-- The eleventh strip's stored value, likewise. -/
theorem pay17_eq (xn : Vec Ideal S512x2048 .bf16) (Wc : Vec Ideal S2048x512 .bf16) : k0_pay17 (k0_pay16 xn Wc) = strip xn Wc := rfl

/-- Strips of one array `Q`, stored in any order so that they cover it, read back as `Q`. -/
theorem readCov_of_strips {sig : RefSig} {κ : Kind} {sp : Space} (v : View sig κ sp S512x6144 .bf16) (Q : Vec Ideal S512x6144 .bf16)
    (L : List (View.Piece (Elt Ideal) S512x6144 .bf16)) (r : Rect S512x6144) (h : View.PiecesOf Q L)
    (hc : View.Piece.tiled L ![512, 512] = true) : v.readCov L r.toLoadRect = View.ld Q r := by
  rw [View.readCov_eq_canon_ld _ _ _ (View.cover_of_tiled _ _ hc)]
  congr 1
  funext y
  exact View.canon_apply_of_pieces Q L h.mem y (View.cover_of_tiled _ _ hc y)

/-- The projections read back through any rectangle after the twelve stores. -/
theorem read_project {sig : RefSig} {κ : Kind} {sp : Space} (v : View sig κ sp S512x6144 .bf16) (xn : Vec Ideal S512x2048 .bf16)
    (W : Vec Ideal S2048x6144 .bf16) (r : Rect S512x6144) :
    v.readCov (Val := Elt Ideal)
      [⟨Rect.unit (s := S512x6144) ![0, 5632] ![512, 512] inb_S512x6144_S512x512_0_5632,
          k0_pay19 xn (View.ld W (Rect.unit (s := S2048x6144) ![0, 5632] ![2048, 512] inb_S2048x6144_S2048x512_0_5632))⟩,
        ⟨Rect.unit (s := S512x6144) ![0, 5120] ![512, 512] inb_S512x6144_S512x512_0_5120,
          k0_pay18 xn (View.ld W (Rect.unit (s := S2048x6144) ![0, 5120] ![2048, 512] inb_S2048x6144_S2048x512_0_5120))⟩,
        ⟨Rect.unit (s := S512x6144) ![0, 4608] ![512, 512] inb_S512x6144_S512x512_0_4608,
          k0_pay17 (k0_pay16 xn (View.ld W (Rect.unit (s := S2048x6144) ![0, 4608] ![2048, 512] inb_S2048x6144_S2048x512_0_4608)))⟩,
        ⟨Rect.unit (s := S512x6144) ![0, 4096] ![512, 512] inb_S512x6144_S512x512_0_4096,
          k0_pay15 xn (View.ld W (Rect.unit (s := S2048x6144) ![0, 4096] ![2048, 512] inb_S2048x6144_S2048x512_0_4096))⟩,
        ⟨Rect.unit (s := S512x6144) ![0, 3584] ![512, 512] inb_S512x6144_S512x512_0_3584,
          k0_pay14 xn (View.ld W (Rect.unit (s := S2048x6144) ![0, 3584] ![2048, 512] inb_S2048x6144_S2048x512_0_3584))⟩,
        ⟨Rect.unit (s := S512x6144) ![0, 3072] ![512, 512] inb_S512x6144_S512x512_0_3072,
          k0_pay13 xn (View.ld W (Rect.unit (s := S2048x6144) ![0, 3072] ![2048, 512] inb_S2048x6144_S2048x512_0_3072))⟩,
        ⟨Rect.unit (s := S512x6144) ![0, 2560] ![512, 512] inb_S512x6144_S512x512_0_2560,
          k0_pay12 xn (View.ld W (Rect.unit (s := S2048x6144) ![0, 2560] ![2048, 512] inb_S2048x6144_S2048x512_0_2560))⟩,
        ⟨Rect.unit (s := S512x6144) ![0, 2048] ![512, 512] inb_S512x6144_S512x512_0_2048,
          k0_pay11 xn (View.ld W (Rect.unit (s := S2048x6144) ![0, 2048] ![2048, 512] inb_S2048x6144_S2048x512_0_2048))⟩,
        ⟨Rect.unit (s := S512x6144) ![0, 1536] ![512, 512] inb_S512x6144_S512x512_0_1536,
          k0_pay10 xn (View.ld W (Rect.unit (s := S2048x6144) ![0, 1536] ![2048, 512] inb_S2048x6144_S2048x512_0_1536))⟩,
        ⟨Rect.unit (s := S512x6144) ![0, 1024] ![512, 512] inb_S512x6144_S512x512_0_1024,
          k0_pay9 xn (View.ld W (Rect.unit (s := S2048x6144) ![0, 1024] ![2048, 512] inb_S2048x6144_S2048x512_0_1024))⟩,
        ⟨Rect.unit (s := S512x6144) ![0, 512] ![512, 512] inb_S512x6144_S512x512_0_512,
          k0_pay8 xn (View.ld W (Rect.unit (s := S2048x6144) ![0, 512] ![2048, 512] inb_S2048x6144_S2048x512_0_512))⟩,
        ⟨Rect.unit (s := S512x6144) ![0, 0] ![512, 512] inb_S512x6144_S512x512_0_0,
          k0_pay7 (k0_pay6 xn (View.ld W (Rect.unit (s := S2048x6144) ![0, 0] ![2048, 512] inb_S2048x6144_S2048x512_0_0)))⟩] r.toLoadRect
      = View.ld (project xn W) r := by
  refine readCov_of_strips v _ _ r ?_ rfl
  refine ⟨?_, ?_, ?_, ?_, ?_, ?_, ?_, ?_, ?_, ?_, ?_, ?_, trivial⟩ <;> exact fun x => congrFun (strip_eq xn W _ _ (by decide)) x

/-- A load of a state head is not touched by a store to another head. -/
theorem skip_state {sig : RefSig} {κ : Kind} {sp : Space} (v : View sig κ sp S32x64x64 .f32) (r : Rect S32x64x64)
    (w : r.shape.Idx → Elt Ideal .f32) (L : List (View.Piece (Elt Ideal) S32x64x64 .f32)) (B : LoadRect S32x64x64)
    (h : LoadRect.disj r B = true) : v.readCov (⟨r, w⟩ :: L) B = v.readCov L B :=
  View.readCov_skip v r w L B h

end AttnProject
-- ==== Proof.AttnHead.lean ====
/-
  One head over one group of 256 rows, as the attention kernel computes it: what it adds to the result rows and what it
  adds to the carried state, for the head's 64 columns of the projections.
-/
module

public import proofs.«01_k».proof.Proof.Gen.KernelIdeal.Value
public import proofs.«01_k».proof.Proof.Rows
public import Idealize.ShloMosaic.Lib.Pipeline.ValueKit
public import Idealize.ShloMosaic.Lib.Pointwise

@[expose] public section

set_option maxRecDepth 16384

noncomputable section

namespace AttnHead

open Cert.KernelIdeal Cert.KernelIdeal.Gen Idealize.ShloMosaic Idealize.ShloMosaic.TcCoe

/-- Column `i` of head `h`. -/
def col (h : Fin 32) (i : Fin 64) : Fin 2048 := ⟨64 * h + i, by omega⟩

/-- The 64 columns of a head lie inside the 2048. -/
theorem slices_head : ∀ h : Fin 32, S256x2048.Slices ![0, 64 * h.val] S256x64 := by decide

/-- The columns of head `h`. -/
def part (h : Fin 32) (a : Vec Ideal S256x2048 .bf16) : FVec Ideal S256x64 .bf16 :=
  extractStridedSlice S256x64 ![0, 64 * h.val] a (slices_head h)

/-- The state of a head after a group of rows. -/
def step (h : Fin 32) (k v : Vec Ideal S256x2048 .bf16) (st : Vec Ideal S1x64x64 .f32) : FVec Ideal S1x64x64 .f32 :=
  shapeCast S1x64x64 (addf (φ := .f32) (shapeCast (α := Ideal .f32) S64x64 st shapeCasts_S1x64x64_S64x64)
    (matmul (F := Ideal) (φ₁ := .bf16) (φ₂ := .bf16) dot_S256x64_S256x64_S64x64_0_0_1_1_n_n none (part h k) (part h v)
      (constant S64x64 .f32 0x00000000#32))) shapeCasts_S64x64_S1x64x64

/-- What a head adds to the rows of a group: the masked products of the group's own rows, and the carried state. -/
def out (h : Fin 32) (q k v : Vec Ideal S256x2048 .bf16) (st : Vec Ideal S1x64x64 .f32) : FVec Ideal S256x64 .f32 :=
  addf (φ := .f32)
    (matmul (F := Ideal) (φ₁ := .bf16) (φ₂ := .bf16) dot_S256x256_S256x64_S256x64_1_0_0_1_n_n none
      (truncf .bf16 (select k0_pay20
        (matmul (F := Ideal) (φ₁ := .bf16) (φ₂ := .bf16) dot_S256x64_S256x64_S256x256_1_1_0_0_n_n none (part h q) (part h v)
          (constant S256x256 .f32 0x00000000#32))
        (broadcast S256x256 (Scalar.ofBits (F := Ideal) .f32 0x00000000#32))) bitsLt_bf16_f32)
      (part h k) (constant S256x64 .f32 0x00000000#32))
    (matmul (F := Ideal) (φ₁ := .bf16) (φ₂ := .bf16) dot_S256x64_S64x64_S256x64_1_1_0_0_n_n none (part h q)
      (truncf .bf16 (shapeCast (α := Ideal .f32) S64x64 st shapeCasts_S1x64x64_S64x64) bitsLt_bf16_f32)
      (constant S256x64 .f32 0x00000000#32))

/-- The columns of head `h`, read at a place. -/
theorem part_apply (h : Fin 32) (a : Vec Ideal S256x2048 .bf16) (r : Fin 256) (i : Fin 64) :
    part h a (ix2 r i) = a (ix2 r (col h i)) := by
  pointwise [part, col]

/-- The state of a head gains, over the group's rows, key times value. -/
theorem step_apply (h : Fin 32) (k v : Vec Ideal S256x2048 .bf16) (st : Vec Ideal S1x64x64 .f32) (i j : Fin 64) :
    step h k v st (ix3 0 i j) = st (ix3 0 i j) + ∑ u : Fin 256, k (ix2 u (col h i)) * v (ix2 u (col h j)) := by
  pointwise [step, part_apply]

/-- What a head adds to row `r`: over the rows up to `r`, query times value times key, and the query times the carried
    state. -/
theorem out_apply (h : Fin 32) (q k v : Vec Ideal S256x2048 .bf16) (st : Vec Ideal S1x64x64 .f32) (r : Fin 256) (i : Fin 64) :
    out h q k v st (ix2 r i)
      = (∑ u : Fin 256, (if u ≤ r then ∑ j : Fin 64, q (ix2 r (col h j)) * v (ix2 u (col h j)) else 0) * k (ix2 u (col h i)))
        + ∑ j : Fin 64, q (ix2 r (col h j)) * st (ix3 0 i j) := by
  pointwise [out, part_apply, k0_pay20]
  refine congrArg (· + _) (Finset.sum_congr rfl fun u _ => ?_)
  have hm : IntOp.cmpi .sge (BitVec.ofNat 32 r.val) (BitVec.ofNat 32 u.val) = 1 ↔ u ≤ r :=
    WordCmp.cmpi_sge_ofNat_eq_one_iff (by omega) (by omega)
  rw [Scalar.select]
  by_cases hu : u ≤ r
  · rw [if_pos (hm.2 hu), if_pos hu]
  · rw [if_neg (mt hm.1 hu), if_neg hu, zero_mul]

/-- The index of a row among all rows, plus one, as the kernel counts it: group `s` of the block at point `n`. -/
def count (n s : BitVec 32) : FVec Ideal S256x1 .f32 :=
  sitofp .f32 (addi (broadcast S256x1 (Scalar.addi (Scalar.muli (Scalar.addi (Scalar.muli n 2#32) s) 256#32) 1#32))
    (iota .tc S256x1 32 [0] iota_S256x1_d0_w32))

/-- The 32 heads of 64 columns side by side. -/
theorem heads_concat : Shape.Concatenates ((List.ofFn fun _ : Fin 32 => S256x64).map id) S256x2048 1 := by
  decide

/-- The result rows of a group: the input rows, the gate's share, and the heads side by side. -/
def rows (n s : BitVec 32) (x : Vec Ideal S256x2048 .f32) (q k v : Vec Ideal S256x2048 .bf16) (em : Vec Ideal S2048x32 .bf16)
    (et : Vec Ideal S32x2048 .bf16) (g : Vec Ideal S1x2048 .f32) (st : Fin 32 → Vec Ideal S1x64x64 .f32) :
    FVec Ideal S256x2048 .f32 :=
  addf (φ := .f32) (addf (φ := .f32) x (k0_pay23 (count n s) (k0_pay22 q em) et g))
    (concatenate (α := Ideal .f32) S256x2048 1 (List.ofFn fun h : Fin 32 => ⟨S256x64, out h q k v (st h)⟩) heads_concat)

/-- A row of a group's result at column `i` of head `h`. -/
theorem rows_apply (n s : BitVec 32) (x : Vec Ideal S256x2048 .f32) (q k v : Vec Ideal S256x2048 .bf16) (em : Vec Ideal S2048x32 .bf16)
    (et : Vec Ideal S32x2048 .bf16) (g : Vec Ideal S1x2048 .f32) (st : Fin 32 → Vec Ideal S1x64x64 .f32)
    (r : Fin 256) (h : Fin 32) (i : Fin 64) :
    rows n s x q k v em et g st (ix2 r (col h i))
      = x (ix2 r (col h i))
        + count n s (ix2 r 0) * (∑ e : Fin 32, (∑ l : Fin 2048, q (ix2 r l) * em (ix2 l e)) * et (ix2 e (col h i))) * g (ix2 0 (col h i))
        + out h q k v (st h) (ix2 r i) := by
  have hc : concatenate (α := Ideal .f32) S256x2048 1 (List.ofFn fun h : Fin 32 => ⟨S256x64, out h q k v (st h)⟩) heads_concat
      (ix2 r (col h i)) = out h q k v (st h) (ix2 r i) := by
    refine concatenate_ofFn_apply (s₁ := S256x64) 1 (fun h : Fin 32 => out h q k v (st h)) heads_concat rfl 64 rfl _ h ?_ _ ?_ ?_
    · show (64 * h.val + i.val) / 64 = h.val
      omega
    · show i.val = (64 * h.val + i.val) % 64
      omega
    · intro b hb
      fin_cases b
      · rfl
      · exact absurd rfl hb
  pointwise [rows, hc, k0_pay23, k0_pay22]

end AttnHead
-- ==== Proof.AttnStores.lean ====
/-
  What a grid point of the attention kernel stores, in terms of one head over one group of 256 rows: the two groups of its
  result rows, and the carried state.
-/
module

public import proofs.«01_k».proof.Proof.AttnProject
public import proofs.«01_k».proof.Proof.AttnHead

@[expose] public section

set_option maxRecDepth 16384

noncomputable section

namespace AttnStores

open Cert.KernelIdeal Cert.KernelIdeal.Gen Idealize.ShloMosaic Idealize.ShloMosaic.TcCoe Idealize.SL.Sem

/-- Group `s` of 256 rows and third `o` of the columns lie inside the projections. -/
theorem inb_piece : ∀ (s : Fin 2) (o : Fin 3) (a : Fin 2), (![256 * s.val, 2048 * o.val] : Fin 2 → ℕ) a + S256x2048.size a ≤ S512x6144.size a := by
  decide

/-- Group `s` of 256 rows lies inside the block. -/
theorem inb_rows : ∀ (s : Fin 2) (a : Fin 2), (![256 * s.val, 0] : Fin 2 → ℕ) a + S256x2048.size a ≤ S512x2048.size a := by
  decide

/-- Head `h` lies inside the state. -/
theorem inb_head : ∀ (h : Fin 32) (a : Fin 3), (![h.val, 0, 0] : Fin 3 → ℕ) a + S1x64x64.size a ≤ S32x64x64.size a := by
  decide

/-- Third `o` of the projections of group `s`. -/
def piece (Q : Vec Ideal S512x6144 .bf16) (s : Fin 2) (o : Fin 3) : Vec Ideal S256x2048 .bf16 :=
  View.ld Q (Rect.unit (s := S512x6144) ![256 * s.val, 2048 * o.val] S256x2048.size (inb_piece s o))

/-- The rows of group `s`. -/
def rowsOf (x : Vec Ideal S512x2048 .f32) (s : Fin 2) : Vec Ideal S256x2048 .f32 :=
  View.ld x (Rect.unit (s := S512x2048) ![256 * s.val, 0] S256x2048.size (inb_rows s))

/-- The state of head `h`. -/
def head (st : Vec Ideal S32x64x64 .f32) (h : Fin 32) : Vec Ideal S1x64x64 .f32 :=
  View.ld st (Rect.unit (s := S32x64x64) ![h.val, 0, 0] S1x64x64.size (inb_head h))

/-- The state of head `h` after a number of groups. -/
def carried (Q : Vec Ideal S512x6144 .bf16) (st : Vec Ideal S32x64x64 .f32) (h : Fin 32) : ℕ → Vec Ideal S1x64x64 .f32
  | 0 => head st h
  | 1 => AttnHead.step h (piece Q 0 1) (piece Q 0 2) (head st h)
  | _ + 2 => AttnHead.step h (piece Q 1 1) (piece Q 1 2) (AttnHead.step h (piece Q 0 1) (piece Q 0 2) (head st h))

/-- The result rows of group `s` at point `n`. -/
def group (n : ℕ) (x : Vec Ideal S512x2048 .f32) (Q : Vec Ideal S512x6144 .bf16) (em : Vec Ideal S2048x32 .bf16)
    (et : Vec Ideal S32x2048 .bf16) (g : Vec Ideal S1x2048 .f32) (st : Vec Ideal S32x64x64 .f32) (s : Fin 2) : FVec Ideal S256x2048 .f32 :=
  AttnHead.rows (BitVec.ofNat 32 n) (BitVec.ofNat 32 s.val) (rowsOf x s) (piece Q s 0) (piece Q s 1) (piece Q s 2) em et g
    (fun h => carried Q st h s.val)

/-- 32 blocks of 64 columns side by side, as a function of the blocks alone. -/
def beside (a0 a1 a2 a3 a4 a5 a6 a7
      a8 a9 a10 a11 a12 a13 a14 a15
      a16 a17 a18 a19 a20 a21 a22 a23
      a24 a25 a26 a27 a28 a29 a30 a31 : FVec Ideal S256x64 .f32) : FVec Ideal S256x2048 .f32 :=
  concatenate (α := Ideal .f32) S256x2048 1
    [⟨S256x64, a0⟩, ⟨S256x64, a1⟩, ⟨S256x64, a2⟩, ⟨S256x64, a3⟩, ⟨S256x64, a4⟩, ⟨S256x64, a5⟩, ⟨S256x64, a6⟩, ⟨S256x64, a7⟩,
      ⟨S256x64, a8⟩, ⟨S256x64, a9⟩, ⟨S256x64, a10⟩, ⟨S256x64, a11⟩, ⟨S256x64, a12⟩, ⟨S256x64, a13⟩, ⟨S256x64, a14⟩, ⟨S256x64, a15⟩,
      ⟨S256x64, a16⟩, ⟨S256x64, a17⟩, ⟨S256x64, a18⟩, ⟨S256x64, a19⟩, ⟨S256x64, a20⟩, ⟨S256x64, a21⟩, ⟨S256x64, a22⟩, ⟨S256x64, a23⟩,
      ⟨S256x64, a24⟩, ⟨S256x64, a25⟩, ⟨S256x64, a26⟩, ⟨S256x64, a27⟩, ⟨S256x64, a28⟩, ⟨S256x64, a29⟩, ⟨S256x64, a30⟩, ⟨S256x64, a31⟩] AttnHead.heads_concat

/-- The kernel's concatenation of 32 blocks is `beside`. -/
theorem concat_eq (a0 a1 a2 a3 a4 a5 a6 a7
      a8 a9 a10 a11 a12 a13 a14 a15
      a16 a17 a18 a19 a20 a21 a22 a23
      a24 a25 a26 a27 a28 a29 a30 a31 : FVec Ideal S256x64 .f32)
    (h : Shape.Concatenates (([⟨S256x64, a0⟩, ⟨S256x64, a1⟩, ⟨S256x64, a2⟩, ⟨S256x64, a3⟩, ⟨S256x64, a4⟩, ⟨S256x64, a5⟩, ⟨S256x64, a6⟩, ⟨S256x64, a7⟩,
      ⟨S256x64, a8⟩, ⟨S256x64, a9⟩, ⟨S256x64, a10⟩, ⟨S256x64, a11⟩, ⟨S256x64, a12⟩, ⟨S256x64, a13⟩, ⟨S256x64, a14⟩, ⟨S256x64, a15⟩,
      ⟨S256x64, a16⟩, ⟨S256x64, a17⟩, ⟨S256x64, a18⟩, ⟨S256x64, a19⟩, ⟨S256x64, a20⟩, ⟨S256x64, a21⟩, ⟨S256x64, a22⟩, ⟨S256x64, a23⟩,
      ⟨S256x64, a24⟩, ⟨S256x64, a25⟩, ⟨S256x64, a26⟩, ⟨S256x64, a27⟩, ⟨S256x64, a28⟩, ⟨S256x64, a29⟩, ⟨S256x64, a30⟩, ⟨S256x64, a31⟩] : List ((s : Shape) × (s.Idx → Ideal .f32))).map (·.1)) S256x2048 1) :
    concatenate (α := Ideal .f32) S256x2048 1
      [⟨S256x64, a0⟩, ⟨S256x64, a1⟩, ⟨S256x64, a2⟩, ⟨S256x64, a3⟩, ⟨S256x64, a4⟩, ⟨S256x64, a5⟩, ⟨S256x64, a6⟩, ⟨S256x64, a7⟩,
      ⟨S256x64, a8⟩, ⟨S256x64, a9⟩, ⟨S256x64, a10⟩, ⟨S256x64, a11⟩, ⟨S256x64, a12⟩, ⟨S256x64, a13⟩, ⟨S256x64, a14⟩, ⟨S256x64, a15⟩,
      ⟨S256x64, a16⟩, ⟨S256x64, a17⟩, ⟨S256x64, a18⟩, ⟨S256x64, a19⟩, ⟨S256x64, a20⟩, ⟨S256x64, a21⟩, ⟨S256x64, a22⟩, ⟨S256x64, a23⟩,
      ⟨S256x64, a24⟩, ⟨S256x64, a25⟩, ⟨S256x64, a26⟩, ⟨S256x64, a27⟩, ⟨S256x64, a28⟩, ⟨S256x64, a29⟩, ⟨S256x64, a30⟩, ⟨S256x64, a31⟩] h
      = beside a0 a1 a2 a3 a4 a5 a6 a7
      a8 a9 a10 a11 a12 a13 a14 a15
      a16 a17 a18 a19 a20 a21 a22 a23
      a24 a25 a26 a27 a28 a29 a30 a31 := rfl

/-- The result block of point `n`: its two groups. -/
def block (n : ℕ) (x : Vec Ideal S512x2048 .f32) (Q : Vec Ideal S512x6144 .bf16) (em : Vec Ideal S2048x32 .bf16)
    (et : Vec Ideal S32x2048 .bf16) (g : Vec Ideal S1x2048 .f32) (st : Vec Ideal S32x64x64 .f32) : Vec Ideal S512x2048 .f32 :=
  View.canon (Val := Elt Ideal) (s := S512x2048) (e := .f32)
    [⟨Rect.unit (s := S512x2048) ![256, 0] S256x2048.size inb_S512x2048_S256x2048_256_0, group n x Q em et g st 1⟩,
     ⟨Rect.unit (s := S512x2048) ![0, 0] S256x2048.size inb_S512x2048_S256x2048_0_0, group n x Q em et g st 0⟩]

/-- The carried state after a point: head by head, after the point's two groups. -/
def after (Q : Vec Ideal S512x6144 .bf16) (st : Vec Ideal S32x64x64 .f32) : Vec Ideal S32x64x64 .f32 := fun y =>
  carried Q st (y 0) 2 (ix3 0 (y 1) (y 2))

/-- The last 32 stores of a point into the carried state, the last one first. -/
def headPieces (Q : Vec Ideal S512x6144 .bf16) (st : Vec Ideal S32x64x64 .f32) : List (View.Piece (Elt Ideal) S32x64x64 .f32) :=
  List.ofFn fun h : Fin 32 =>
    ⟨Rect.unit (s := S32x64x64) ![h.rev.val, 0, 0] S1x64x64.size (inb_head h.rev), carried Q st h.rev 2⟩

/-- The 32 stores, written out. -/
theorem headPieces_eq (Q : Vec Ideal S512x6144 .bf16) (st : Vec Ideal S32x64x64 .f32) :
    headPieces Q st
      = [⟨Rect.unit (s := S32x64x64) ![31, 0, 0] S1x64x64.size (inb_head 31), carried Q st 31 2⟩,
       ⟨Rect.unit (s := S32x64x64) ![30, 0, 0] S1x64x64.size (inb_head 30), carried Q st 30 2⟩,
       ⟨Rect.unit (s := S32x64x64) ![29, 0, 0] S1x64x64.size (inb_head 29), carried Q st 29 2⟩,
       ⟨Rect.unit (s := S32x64x64) ![28, 0, 0] S1x64x64.size (inb_head 28), carried Q st 28 2⟩,
       ⟨Rect.unit (s := S32x64x64) ![27, 0, 0] S1x64x64.size (inb_head 27), carried Q st 27 2⟩,
       ⟨Rect.unit (s := S32x64x64) ![26, 0, 0] S1x64x64.size (inb_head 26), carried Q st 26 2⟩,
       ⟨Rect.unit (s := S32x64x64) ![25, 0, 0] S1x64x64.size (inb_head 25), carried Q st 25 2⟩,
       ⟨Rect.unit (s := S32x64x64) ![24, 0, 0] S1x64x64.size (inb_head 24), carried Q st 24 2⟩,
       ⟨Rect.unit (s := S32x64x64) ![23, 0, 0] S1x64x64.size (inb_head 23), carried Q st 23 2⟩,
       ⟨Rect.unit (s := S32x64x64) ![22, 0, 0] S1x64x64.size (inb_head 22), carried Q st 22 2⟩,
       ⟨Rect.unit (s := S32x64x64) ![21, 0, 0] S1x64x64.size (inb_head 21), carried Q st 21 2⟩,
       ⟨Rect.unit (s := S32x64x64) ![20, 0, 0] S1x64x64.size (inb_head 20), carried Q st 20 2⟩,
       ⟨Rect.unit (s := S32x64x64) ![19, 0, 0] S1x64x64.size (inb_head 19), carried Q st 19 2⟩,
       ⟨Rect.unit (s := S32x64x64) ![18, 0, 0] S1x64x64.size (inb_head 18), carried Q st 18 2⟩,
       ⟨Rect.unit (s := S32x64x64) ![17, 0, 0] S1x64x64.size (inb_head 17), carried Q st 17 2⟩,
       ⟨Rect.unit (s := S32x64x64) ![16, 0, 0] S1x64x64.size (inb_head 16), carried Q st 16 2⟩,
       ⟨Rect.unit (s := S32x64x64) ![15, 0, 0] S1x64x64.size (inb_head 15), carried Q st 15 2⟩,
       ⟨Rect.unit (s := S32x64x64) ![14, 0, 0] S1x64x64.size (inb_head 14), carried Q st 14 2⟩,
       ⟨Rect.unit (s := S32x64x64) ![13, 0, 0] S1x64x64.size (inb_head 13), carried Q st 13 2⟩,
       ⟨Rect.unit (s := S32x64x64) ![12, 0, 0] S1x64x64.size (inb_head 12), carried Q st 12 2⟩,
       ⟨Rect.unit (s := S32x64x64) ![11, 0, 0] S1x64x64.size (inb_head 11), carried Q st 11 2⟩,
       ⟨Rect.unit (s := S32x64x64) ![10, 0, 0] S1x64x64.size (inb_head 10), carried Q st 10 2⟩,
       ⟨Rect.unit (s := S32x64x64) ![9, 0, 0] S1x64x64.size (inb_head 9), carried Q st 9 2⟩,
       ⟨Rect.unit (s := S32x64x64) ![8, 0, 0] S1x64x64.size (inb_head 8), carried Q st 8 2⟩,
       ⟨Rect.unit (s := S32x64x64) ![7, 0, 0] S1x64x64.size (inb_head 7), carried Q st 7 2⟩,
       ⟨Rect.unit (s := S32x64x64) ![6, 0, 0] S1x64x64.size (inb_head 6), carried Q st 6 2⟩,
       ⟨Rect.unit (s := S32x64x64) ![5, 0, 0] S1x64x64.size (inb_head 5), carried Q st 5 2⟩,
       ⟨Rect.unit (s := S32x64x64) ![4, 0, 0] S1x64x64.size (inb_head 4), carried Q st 4 2⟩,
       ⟨Rect.unit (s := S32x64x64) ![3, 0, 0] S1x64x64.size (inb_head 3), carried Q st 3 2⟩,
       ⟨Rect.unit (s := S32x64x64) ![2, 0, 0] S1x64x64.size (inb_head 2), carried Q st 2 2⟩,
       ⟨Rect.unit (s := S32x64x64) ![1, 0, 0] S1x64x64.size (inb_head 1), carried Q st 1 2⟩,
       ⟨Rect.unit (s := S32x64x64) ![0, 0, 0] S1x64x64.size (inb_head 0), carried Q st 0 2⟩] := rfl

/-- A place of the state lies in its head's store. -/
theorem emb_head (h : Fin 32) (x : S1x64x64.Idx) :
    (Rect.unit (s := S32x64x64) ![h.val, 0, 0] S1x64x64.size (inb_head h)).emb x = (ix3 h (x 1) (x 2) : S32x64x64.Idx) := by
  funext a
  apply Fin.ext
  show (![h.val, 0, 0] : Fin 3 → ℕ) a + 1 * (x a).val = _
  have h0 : (x 0).val = 0 := by
    have : (x 0).val < 1 := (x 0).isLt
    omega
  fin_cases a
  · show h.val + 1 * (x 0).val = h.val
    omega
  · show 0 + 1 * (x 1).val = (x 1).val
    omega
  · show 0 + 1 * (x 2).val = (x 2).val
    omega

/-- Stores that end with the 32 heads leave `after`, whatever came before. -/
theorem canon_heads (Q : Vec Ideal S512x6144 .bf16) (st : Vec Ideal S32x64x64 .f32) (L : List (View.Piece (Elt Ideal) S32x64x64 .f32))
    (hL : L.take 32 = headPieces Q st) : View.canon L = after Q st := by
  rw [← List.take_append_drop 32 L, hL]
  funext y
  refine View.canon_append_of_pieces (after Q st) _ _ ?_ y ?_
  · intro p hp x
    obtain ⟨h, rfl⟩ := List.mem_ofFn.mp hp
    refine Eq.trans ?_ (congrArg (after Q st) (emb_head h.rev x)).symm
    show carried Q st h.rev 2 x = carried Q st h.rev 2 (ix3 0 (x 1) (x 2))
    congr 1
    funext a
    apply Fin.ext
    fin_cases a
    · have : (x 0).val < 1 := (x 0).isLt
      show (x 0).val = 0
      omega
    · rfl
    · rfl
  · refine ⟨_, List.mem_ofFn.mpr ⟨(y 0).rev, rfl⟩, ?_⟩
    rw [Rect.mem_set_unit]
    intro a
    have hr : (y 0).rev.rev = y 0 := Fin.rev_rev _
    fin_cases a
    · show (y 0).rev.rev.val ≤ (y 0).val ∧ (y 0).val < (y 0).rev.rev.val + 1
      rw [hr]
      omega
    · exact ⟨Nat.zero_le _, (show (y 1).val < 0 + 64 by have : (y 1).val < 64 := (y 1).isLt; omega)⟩
    · exact ⟨Nat.zero_le _, (show (y 2).val < 0 + 64 by have : (y 2).val < 64 := (y 2).isLt; omega)⟩

/-- The whole state read back after any stores is what they leave. -/
theorem readCov_whole {sig : RefSig} {κ : Kind} {sp : Space} (v : View sig κ sp S32x64x64 .f32)
    (L : List (View.Piece (Elt Ideal) S32x64x64 .f32)) (inb) :
    v.readCov L (Rect.unit (s := S32x64x64) ![0, 0, 0] ![32, 64, 64] inb).toLoadRect = View.canon L := by
  rw [View.readCov_eq_canon']
  exact View.ld_unit_lit' (S := S32x64x64) inb (View.canon L) (by decide)

end AttnStores
-- ==== Proof.AttnRows.lean ====
/-
  What a grid point of the attention kernel leaves in the result block: its two groups of rows, in each of the three kinds of
  points (the first, a middle one, the last).
-/
module

public import proofs.«01_k».proof.Proof.AttnStores

@[expose] public section

set_option maxRecDepth 65536
set_option maxHeartbeats 4000000

noncomputable section

namespace AttnRows

open Cert.KernelIdeal Cert.KernelIdeal.Gen Idealize.ShloMosaic Idealize.ShloMosaic.TcCoe Idealize.SL.Sem

variable (c : Dev nD) (i : grid0.Coords) (arg1 : Memref sig .tc .vmem S512x2048 .f32) (harg1 : arg1.IsWhole) (arg2 : Memref sig .tc .vmem S2048x6144 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x32 .bf16) (harg5 : arg5.IsWhole) (arg6 : Memref sig .tc .vmem S32x2048 .bf16) (harg6 : arg6.IsWhole) (arg7 : Memref sig .tc .vmem S1x2048 .f32) (harg7 : arg7.IsWhole) (arg8 : Memref sig .tc .vmem S32x64x64 .f32) (harg8 : arg8.IsWhole) (arg9 : Memref sig .tc .vmem S32x64x64 .f32) (harg9 : arg9.IsWhole) (arg10 : Memref sig .tc .vmem S512x2048 .f32) (harg10 : arg10.IsWhole) (arg11 : Memref sig .tc .vmem S32x64x64 .f32) (harg11 : arg11.IsWhole) (arg12 : Memref sig .tc .vmem S512x2048 .bf16) (harg12 : arg12.IsWhole) (arg13 : Memref sig .tc .vmem S512x6144 .bf16) (harg13 : arg13.IsWhole) (arg14 : Memref sig .tc .vmem S32x64x64 .f32) (harg14 : arg14.IsWhole)
    (x0 : Vec Ideal S512x2048 .f32) (x1 : Vec Ideal S2048x6144 .bf16) (x2 : Vec Ideal S1x2048 .f32) (x3 : Vec Ideal S1x2048 .f32) (x4 : Vec Ideal S2048x32 .bf16) (x5 : Vec Ideal S32x2048 .bf16) (x6 : Vec Ideal S1x2048 .f32) (x7 : Vec Ideal S32x64x64 .f32) (x8 : Vec Ideal S32x64x64 .f32) (xs2 : Vec Ideal S32x64x64 .f32)

/-- A point of case A leaves its two groups in the result block. -/
theorem rows_A (hc0 : cond0_0 i) (hc1 : ¬cond0_1 i) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8
      = AttnStores.block (i 0).val x0 (AttnProject.project (k0_pay5 x0 x2 x3) x1) x4 x5 x6 (k0_pay4 x7) := by
  rw [out0_A_9]
  frame_open
  simp (disch := decide) only [↓ AttnStores.concat_eq, ↓ AttnProject.skip_state, ↓ View.readCov_cons_toLoadRect, ↓ View.readCov_fill]
  simp (disch := decide) only [View.readAt_eq_ld, Memref.IsWhole.read_unread, View.ld_unit_lit', View.readCov_unit_lit']
  simp (disch := decide) only [AttnProject.read_project, View.read_writes_junk_eq_canon]
  rfl

/-- A point of case B leaves its two groups in the result block. -/
theorem rows_B (hc0 : ¬cond0_0 i) (hc1 : ¬cond0_1 i) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs2
      = AttnStores.block (i 0).val x0 (AttnProject.project (k0_pay5 x0 x2 x3) x1) x4 x5 x6 xs2 := by
  rw [out0_B_9]
  frame_open
  simp (disch := decide) only [↓ AttnStores.concat_eq, ↓ AttnProject.skip_state, ↓ View.readCov_cons_toLoadRect, ↓ View.readCov_fill]
  simp (disch := decide) only [View.readAt_eq_ld, Memref.IsWhole.read_unread, View.ld_unit_lit', View.readCov_unit_lit']
  simp (disch := decide) only [AttnProject.read_project, View.read_writes_junk_eq_canon]
  rfl

/-- A point of case C leaves its two groups in the result block. -/
theorem rows_C (hc0 : ¬cond0_0 i) (hc1 : cond0_1 i) :
    out0_C_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs2
      = AttnStores.block (i 0).val x0 (AttnProject.project (k0_pay5 x0 x2 x3) x1) x4 x5 x6 xs2 := by
  rw [out0_C_9]
  frame_open
  simp (disch := decide) only [↓ AttnStores.concat_eq, ↓ AttnProject.skip_state, ↓ View.readCov_cons_toLoadRect, ↓ View.readCov_fill]
  simp (disch := decide) only [View.readAt_eq_ld, Memref.IsWhole.read_unread, View.ld_unit_lit', View.readCov_unit_lit']
  simp (disch := decide) only [AttnProject.read_project, View.read_writes_junk_eq_canon]
  rfl

end AttnRows
-- ==== Proof.AttnState.lean ====
/-
  What a grid point of the attention kernel leaves in the carried state, in each of the three kinds of points, and what the
  last one leaves in the result state.
-/
module

public import proofs.«01_k».proof.Proof.AttnStores

@[expose] public section

set_option maxRecDepth 65536
set_option maxHeartbeats 4000000

noncomputable section

namespace AttnState

open Cert.KernelIdeal Cert.KernelIdeal.Gen Idealize.ShloMosaic Idealize.ShloMosaic.TcCoe Idealize.SL.Sem

variable (c : Dev nD) (i : grid0.Coords) (arg1 : Memref sig .tc .vmem S512x2048 .f32) (harg1 : arg1.IsWhole) (arg2 : Memref sig .tc .vmem S2048x6144 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x32 .bf16) (harg5 : arg5.IsWhole) (arg6 : Memref sig .tc .vmem S32x2048 .bf16) (harg6 : arg6.IsWhole) (arg7 : Memref sig .tc .vmem S1x2048 .f32) (harg7 : arg7.IsWhole) (arg8 : Memref sig .tc .vmem S32x64x64 .f32) (harg8 : arg8.IsWhole) (arg9 : Memref sig .tc .vmem S32x64x64 .f32) (harg9 : arg9.IsWhole) (arg10 : Memref sig .tc .vmem S512x2048 .f32) (harg10 : arg10.IsWhole) (arg11 : Memref sig .tc .vmem S32x64x64 .f32) (harg11 : arg11.IsWhole) (arg12 : Memref sig .tc .vmem S512x2048 .bf16) (harg12 : arg12.IsWhole) (arg13 : Memref sig .tc .vmem S512x6144 .bf16) (harg13 : arg13.IsWhole) (arg14 : Memref sig .tc .vmem S32x64x64 .f32) (harg14 : arg14.IsWhole)
    (x0 : Vec Ideal S512x2048 .f32) (x1 : Vec Ideal S2048x6144 .bf16) (x2 : Vec Ideal S1x2048 .f32) (x3 : Vec Ideal S1x2048 .f32) (x4 : Vec Ideal S2048x32 .bf16) (x5 : Vec Ideal S32x2048 .bf16) (x6 : Vec Ideal S1x2048 .f32) (x7 : Vec Ideal S32x64x64 .f32) (x8 : Vec Ideal S32x64x64 .f32) (xs2 : Vec Ideal S32x64x64 .f32)

/-- A point of case A takes the carried state over its two groups. -/
theorem state_A (hc0 : cond0_0 i) (hc1 : ¬cond0_1 i) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8
      = AttnStores.after (AttnProject.project (k0_pay5 x0 x2 x3) x1) (k0_pay4 x7) := by
  rw [sout0_A_2]
  frame_open
  simp (disch := decide) only [↓ AttnStores.concat_eq, ↓ AttnProject.skip_state, ↓ View.readCov_cons_toLoadRect, ↓ View.readCov_fill]
  simp (disch := decide) only [View.readAt_eq_ld, Memref.IsWhole.read_unread, View.ld_unit_lit', View.readCov_unit_lit']
  simp (disch := decide) only [AttnProject.read_project, View.read_writes_junk_eq_canon]
  refine AttnStores.canon_heads _ _ _ ?_
  rw [AttnStores.headPieces_eq]
  simp only [List.take_succ_cons, List.take_zero]
  rfl

/-- A point of case B takes the carried state over its two groups. -/
theorem state_B (hc0 : ¬cond0_0 i) (hc1 : ¬cond0_1 i) :
    sout0_B_2 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs2
      = AttnStores.after (AttnProject.project (k0_pay5 x0 x2 x3) x1) xs2 := by
  rw [sout0_B_2]
  frame_open
  simp (disch := decide) only [↓ AttnStores.concat_eq, ↓ AttnProject.skip_state, ↓ View.readCov_cons_toLoadRect, ↓ View.readCov_fill]
  simp (disch := decide) only [View.readAt_eq_ld, Memref.IsWhole.read_unread, View.ld_unit_lit', View.readCov_unit_lit']
  simp (disch := decide) only [AttnProject.read_project, View.read_writes_junk_eq_canon]
  refine AttnStores.canon_heads _ _ _ ?_
  rw [AttnStores.headPieces_eq]
  simp only [List.take_succ_cons, List.take_zero]
  rfl

/-- A point of case C takes the carried state over its two groups. -/
theorem state_C (hc0 : ¬cond0_0 i) (hc1 : cond0_1 i) :
    sout0_C_2 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs2
      = AttnStores.after (AttnProject.project (k0_pay5 x0 x2 x3) x1) xs2 := by
  rw [sout0_C_2]
  frame_open
  simp (disch := decide) only [↓ AttnStores.concat_eq, ↓ AttnProject.skip_state, ↓ View.readCov_cons_toLoadRect, ↓ View.readCov_fill]
  simp (disch := decide) only [View.readAt_eq_ld, Memref.IsWhole.read_unread, View.ld_unit_lit', View.readCov_unit_lit']
  simp (disch := decide) only [AttnProject.read_project, View.read_writes_junk_eq_canon]
  refine AttnStores.canon_heads _ _ _ ?_
  rw [AttnStores.headPieces_eq]
  simp only [List.take_succ_cons, List.take_zero]
  rfl

/-- The last point leaves the carried state after its two groups, plus the given addend, in the result state. -/
theorem final_C (hc0 : ¬cond0_0 i) (hc1 : cond0_1 i) :
    out0_C_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs2
      = k0_pay3 (AttnStores.after (AttnProject.project (k0_pay5 x0 x2 x3) x1) xs2) x8 := by
  rw [out0_C_10]
  frame_open
  simp (disch := decide) only [↓ AttnStores.concat_eq, ↓ AttnProject.skip_state, ↓ View.readCov_cons_toLoadRect, ↓ View.readCov_fill]
  simp (disch := decide) only [View.readAt_eq_ld, Memref.IsWhole.read_unread, View.ld_unit_lit', View.readCov_unit_lit']
  simp (disch := decide) only [AttnProject.read_project, View.read_writes_junk_eq_canon]
  simp (disch := decide) only [View.canon_cons_unit_lit', AttnStores.readCov_whole]
  refine congrArg (fun s => k0_pay3 s x8) (AttnStores.canon_heads _ _ _ ?_)
  rw [AttnStores.headPieces_eq]
  simp only [List.take_succ_cons, List.take_zero]
  rfl

end AttnState
-- ==== Proof.AttnSum.lean ====
/-
  The two equations behind the attention claim, about sums only: the carried state is an extended real, everything that is
  added to it or multiplied with it is real.
-/
module

public import Mathlib.Data.EReal.Operations
public import Mathlib.Algebra.BigOperators.Fin
public import Mathlib.Algebra.BigOperators.Ring.Finset
public import Mathlib.Tactic.Ring

@[expose] public section

namespace AttnSum

open Finset

/-- A real sum, taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A real product distributes over an extended real plus a real. -/
theorem add_coe_mul_coe (s : EReal) (r q : ℝ) : (s + (r : EReal)) * (q : EReal) = s * q + ((r * q : ℝ) : EReal) := by
  induction s using EReal.rec with
  | coe s => norm_cast; ring
  | top =>
    rw [EReal.top_add_coe]
    rcases lt_trichotomy q 0 with h | h | h
    · rw [EReal.top_mul_coe_of_neg h, EReal.bot_add]
    · subst h; simp
    · rw [EReal.top_mul_coe_of_pos h, EReal.top_add_coe]
  | bot =>
    rw [EReal.bot_add]
    rcases lt_trichotomy q 0 with h | h | h
    · rw [EReal.bot_mul_coe_of_neg h, EReal.top_add_coe]
    · subst h; simp
    · rw [EReal.bot_mul_coe_of_pos h, EReal.bot_add]

/-- A row of the scan: the gate, the group's own masked products and the state carried so far add up to the state at that row
    times the query. -/
theorem row (s : Fin 64 → EReal) (g : ℝ) (q : Fin 64 → ℝ) (k : ℕ → ℝ) (v : ℕ → Fin 64 → ℝ) (a r : ℕ) :
    (((a + r + 1 : ℕ) : ℝ) : EReal) * (∑ j, (q j : EReal)) * (g : EReal)
        + ((∑ u ∈ range (r + 1), (∑ j, (q j : EReal) * (v (a + u) j : EReal)) * (k (a + u) : EReal))
          + ∑ j, (q j : EReal) * (s j + ∑ u ∈ range a, (k u : EReal) * (v u j : EReal)))
      = ∑ j, (s j + ∑ u ∈ range (a + r + 1), ((g : EReal) + (k u : EReal) * (v u j : EReal))) * (q j : EReal) := by
  have e : ∀ j, (q j : EReal) * (s j + ∑ u ∈ range a, (k u : EReal) * (v u j : EReal))
      = s j * q j + (((∑ u ∈ range a, k u * v u j) * q j : ℝ) : EReal) := fun j => by
    rw [EReal.mul_comm (q j : EReal), ← add_coe_mul_coe, coe_sum]
    simp only [EReal.coe_mul]
  have e' : ∀ j, (s j + ∑ u ∈ range (a + r + 1), ((g : EReal) + (k u : EReal) * (v u j : EReal))) * (q j : EReal)
      = s j * q j + (((∑ u ∈ range (a + r + 1), (g + k u * v u j)) * q j : ℝ) : EReal) := fun j => by
    rw [← add_coe_mul_coe, coe_sum]
    simp only [EReal.coe_mul, EReal.coe_add]
  simp only [e, e']
  rw [sum_add_distrib, sum_add_distrib]
  simp only [← EReal.coe_mul, ← coe_sum]
  rw [← add_assoc, add_comm (∑ j, s j * (q j : EReal)), ← add_assoc, add_comm (∑ j, s j * (q j : EReal))]
  congr 1
  rw [← EReal.coe_add, ← EReal.coe_add]
  congr 1
  have hr : ∀ j, ∑ u ∈ range (a + r + 1), k u * v u j = ∑ u ∈ range a, k u * v u j + ∑ u ∈ range (r + 1), k (a + u) * v (a + u) j :=
    fun j => by rw [add_assoc, sum_range_add]
  simp only [sum_const, card_range, hr, add_mul, sum_add_distrib, nsmul_eq_mul]
  have hc : ∑ u ∈ range (r + 1), (∑ j, q j * v (a + u) j) * k (a + u) = ∑ j, (∑ u ∈ range (r + 1), k (a + u) * v (a + u) j) * q j := by
    simp only [sum_mul]
    rw [sum_comm]
    exact sum_congr rfl fun _ _ => sum_congr rfl fun _ _ => by ring
  have hg : ((a + r + 1 : ℕ) : ℝ) * (∑ j, q j) * g = ∑ j, ((a + r + 1 : ℕ) : ℝ) * g * q j := by
    rw [← mul_sum]; ring
  rw [hc, hg]
  ring

/-- The state at the end: all the products, and the gate once for each row. -/
theorem last (s : EReal) (g : ℝ) (k v : ℕ → ℝ) (n : ℕ) :
    (s + ∑ u ∈ range n, (k u : EReal) * (v u : EReal)) + ((n : ℝ) : EReal) * (g : EReal)
      = s + ∑ u ∈ range n, ((g : EReal) + (k u : EReal) * (v u : EReal)) := by
  rw [add_assoc]
  congr 1
  simp only [← EReal.coe_mul, ← EReal.coe_add, ← coe_sum]
  congr 1
  rw [sum_add_distrib, sum_const, card_range, nsmul_eq_mul]
  ring

end AttnSum
-- ==== Proof.AttnBlock.lean ====
/-
  One grid point of the attention kernel, read place by place: its result rows are the scan's rows, its carried state the
  scan's state after the point's 512 rows.
-/
module

public import proofs.«01_k».proof.Proof.AttnStores
public import proofs.«01_k».proof.Proof.AttnSum

@[expose] public section

set_option maxRecDepth 16384

noncomputable section

namespace AttnBlock

open Cert.KernelIdeal Cert.KernelIdeal.Gen Idealize.ShloMosaic Idealize.ShloMosaic.TcCoe Idealize.SL.Sem Finset AttnHead AttnStores

/-- Row `r` of group `s`. -/
def rowIx (s : Fin 2) (r : Fin 256) : Fin 512 := ⟨256 * s + r, by omega⟩

/-- Column `c` of third `o` of the projections. -/
def third (o : Fin 3) (c : Fin 2048) : Fin 6144 := ⟨2048 * o + c, by omega⟩

/-- A third of a group's projections, place by place. -/
theorem piece_apply (Q : Vec Ideal S512x6144 .bf16) (s : Fin 2) (o : Fin 3) (r : Fin 256) (c : Fin 2048) :
    piece Q s o (ix2 r c) = Q (ix2 (rowIx s r) (third o c)) := by
  refine congrArg Q (funext fun a => Fin.ext ?_)
  show (![256 * s.val, 2048 * o.val] : Fin 2 → ℕ) a + 1 * ((ix2 r c : S256x2048.Idx) a).val = _
  fin_cases a
  · show 256 * s.val + 1 * r.val = 256 * s.val + r.val
    omega
  · show 2048 * o.val + 1 * c.val = 2048 * o.val + c.val
    omega

/-- A group's rows, place by place. -/
theorem rowsOf_apply (x : Vec Ideal S512x2048 .f32) (s : Fin 2) (r : Fin 256) (c : Fin 2048) :
    rowsOf x s (ix2 r c) = x (ix2 (rowIx s r) c) := by
  refine congrArg x (funext fun a => Fin.ext ?_)
  show (![256 * s.val, 0] : Fin 2 → ℕ) a + 1 * ((ix2 r c : S256x2048.Idx) a).val = _
  fin_cases a
  · show 256 * s.val + 1 * r.val = 256 * s.val + r.val
    omega
  · show 0 + 1 * c.val = c.val
    omega

/-- A head's state, place by place. -/
theorem head_apply (st : Vec Ideal S32x64x64 .f32) (h : Fin 32) (i j : Fin 64) : head st h (ix3 0 i j) = st (ix3 h i j) :=
  congrArg st (emb_head h (ix3 0 i j))

/-- Where a group's store puts a place. -/
theorem emb_rows (s : Fin 2) (r : Fin 256) (c : Fin 2048) :
    (Rect.unit (s := S512x2048) ![256 * s.val, 0] S256x2048.size (inb_rows s)).emb (ix2 r c) = ix2 (rowIx s r) c := by
  refine funext fun a => Fin.ext ?_
  show (![256 * s.val, 0] : Fin 2 → ℕ) a + 1 * ((ix2 r c : S256x2048.Idx) a).val = _
  fin_cases a
  · show 256 * s.val + 1 * r.val = 256 * s.val + r.val
    omega
  · show 0 + 1 * c.val = c.val
    omega

/-- Two stores of 256 rows, at a row of one of them. -/
theorem canon_rows (P : Fin 2 → FVec Ideal S256x2048 .f32) (s : Fin 2) (r : Fin 256) (c : Fin 2048) :
    View.canon (Val := Elt Ideal) (s := S512x2048) (e := .f32)
      [⟨Rect.unit (s := S512x2048) ![256 * (1 : Fin 2).val, 0] S256x2048.size (inb_rows 1), P 1⟩,
       ⟨Rect.unit (s := S512x2048) ![256 * (0 : Fin 2).val, 0] S256x2048.size (inb_rows 0), P 0⟩] (ix2 (rowIx s r) c) = P s (ix2 r c) := by
  have hs : s = 0 ∨ s = 1 := by omega
  rcases hs with rfl | rfl
  · rw [View.canon_cons_of_not_mem]
    · rw [← emb_rows 0 r c]
      exact View.canon_cons_emb _ _ _ _
    · rw [Rect.mem_set_unit]
      intro hm
      have h0 : 256 * 1 ≤ 256 * 0 + r.val := (hm 0).1
      omega
  · rw [← emb_rows 1 r c]
    exact View.canon_cons_emb _ _ _ _

/-- The block at a row of group `s` is that group's rows. -/
theorem block_apply (n : ℕ) (x : Vec Ideal S512x2048 .f32) (Q : Vec Ideal S512x6144 .bf16) (em : Vec Ideal S2048x32 .bf16)
    (et : Vec Ideal S32x2048 .bf16) (g : Vec Ideal S1x2048 .f32) (st : Vec Ideal S32x64x64 .f32) (s : Fin 2) (r : Fin 256) (c : Fin 2048) :
    block n x Q em et g st (ix2 (rowIx s r) c) = group n x Q em et g st s (ix2 r c) :=
  canon_rows (group n x Q em et g st) s r c

/-- A sum over 256 rows, as a sum over numbers. -/
theorem sum_rows (f : ℕ → EReal) : ∑ u : Fin 256, f u.val = ∑ u ∈ range 256, f u := (Finset.sum_range f).symm

/-- A sum over the rows up to `r`. -/
theorem sum_upto (f : ℕ → EReal) (p : ℕ → EReal) (r : Fin 256) :
    ∑ u : Fin 256, (if u ≤ r then f u.val else 0) * p u.val = ∑ u ∈ range (r.val + 1), f u * p u := by
  have e : ∀ u : Fin 256, (if u ≤ r then f u.val else 0) * p u.val = (fun w : ℕ => if w ≤ r.val then f w * p w else 0) u.val := fun u => by
    by_cases h : u ≤ r
    · have h' : u.val ≤ r.val := h
      simp only [if_pos h, if_pos h']
    · have h' : ¬ u.val ≤ r.val := h
      simp only [if_neg h, if_neg h', zero_mul]
  rw [sum_congr rfl fun u _ => e u, sum_rows (fun w : ℕ => if w ≤ r.val then f w * p w else 0), ← sum_filter]
  refine sum_congr (Finset.ext fun u => ?_) fun _ _ => rfl
  simp only [mem_filter, mem_range]
  omega

/-- The columns of a head, found by their number divided by 64. -/
theorem sum_head (q : Fin 2048 → EReal) (h : Fin 32) (i : Fin 64) :
    ∑ e : Fin 32, (∑ l : Fin 2048, q l * (if l.val / 64 = e.val then (1 : EReal) else 0)) * (if (col h i).val / 64 = e.val then (1 : EReal) else 0)
      = ∑ j : Fin 64, q (col h j) := by
  have hc : (col h i).val / 64 = h.val := by
    show (64 * h.val + i.val) / 64 = h.val
    omega
  rw [sum_eq_single h]
  · rw [if_pos hc, mul_one]
    simp only [mul_ite, mul_one, mul_zero]
    rw [← sum_filter]
    symm
    refine sum_bij (fun j _ => col h j) (fun j _ => ?_) (fun j _ j' _ e => ?_) (fun l hl => ?_) (fun _ _ => rfl)
    · rw [mem_filter]
      refine ⟨mem_univ _, ?_⟩
      show (64 * h.val + j.val) / 64 = h.val
      omega
    · have : 64 * h.val + j.val = 64 * h.val + j'.val := congrArg Fin.val e
      exact Fin.ext (by omega)
    · have := (mem_filter.1 hl).2
      exact ⟨⟨l.val - 64 * h.val, by omega⟩, mem_univ _, Fin.ext (show 64 * h.val + (l.val - 64 * h.val) = l.val by omega)⟩
  · intro e _ he
    rw [if_neg (by rw [hc]; exact fun hh => he (Fin.ext hh.symm)), mul_zero]
  · exact fun hh => absurd (mem_univ _) hh

/-- The kernel's count of a row is its number among all rows, plus one. -/
theorem count_apply (n : ℕ) (hn : n < 8) (s : Fin 2) (r : Fin 256) :
    AttnHead.count (BitVec.ofNat 32 n) (BitVec.ofNat 32 s.val) (ix2 r 0) = (((512 * n + 256 * s.val + r.val + 1 : ℕ) : ℝ) : EReal) := by
  have hb : ((BitVec.ofNat 32 n * 2#32 + BitVec.ofNat 32 s.val) * 256#32 + 1#32) + BitVec.ofNat 32 r.val
      = BitVec.ofNat 32 (512 * n + 256 * s.val + r.val + 1) := by
    apply BitVec.eq_of_toNat_eq
    simp only [BitVec.toNat_add, BitVec.toNat_mul, BitVec.toNat_ofNat]
    omega
  have hi : (iota .tc S256x1 32 [0] iota_S256x1_d0_w32 : IVec S256x1 32) (ix2 r 0) = BitVec.ofNat 32 r.val := by
    pointwise
  show (((((BitVec.ofNat 32 n * 2#32 + BitVec.ofNat 32 s.val) * 256#32 + 1#32)
    + (iota .tc S256x1 32 [0] iota_S256x1_d0_w32 : IVec S256x1 32) (ix2 r 0)).toInt : ℝ) : EReal) = _
  rw [hi, hb, BitVec.toInt_eq_toNat_of_lt (by rw [BitVec.toNat_ofNat]; omega), BitVec.toNat_ofNat, Nat.mod_eq_of_lt (by omega)]
  norm_cast

section

variable (n : ℕ) (Q : Vec Ideal S512x6144 .bf16) (st : Vec Ideal S32x64x64 .f32) (q k v : ℕ → Fin 2048 → ℝ) (s0 : Fin 32 → Fin 64 → Fin 64 → EReal)
  (hq : ∀ u c, Q (ix2 u (third 0 c)) = (q (512 * n + u.val) c : EReal))
  (hk : ∀ u c, Q (ix2 u (third 1 c)) = (k (512 * n + u.val) c : EReal))
  (hv : ∀ u c, Q (ix2 u (third 2 c)) = (v (512 * n + u.val) c : EReal))
  (hst : ∀ h i j, st (ix3 h i j) = s0 h i j + ∑ u ∈ range (512 * n), (k u (col h i) : EReal) * (v u (col h j) : EReal))

include hk hv hst

/-- The state after each group is the start plus the products of all rows so far. -/
theorem carried_apply (h : Fin 32) (i j : Fin 64) : ∀ σ : ℕ, σ < 3 →
    carried Q st h σ (ix3 0 i j) = s0 h i j + ∑ u ∈ range (512 * n + 256 * σ), (k u (col h i) : EReal) * (v u (col h j) : EReal) := by
  have hstep : ∀ (s : Fin 2) (S : Vec Ideal S1x64x64 .f32),
      S (ix3 0 i j) = s0 h i j + ∑ u ∈ range (512 * n + 256 * s.val), (k u (col h i) : EReal) * (v u (col h j) : EReal) →
      AttnHead.step h (piece Q s 1) (piece Q s 2) S (ix3 0 i j)
        = s0 h i j + ∑ u ∈ range (512 * n + 256 * s.val + 256), (k u (col h i) : EReal) * (v u (col h j) : EReal) := by
    intro s S hS
    rw [step_apply, hS, sum_range_add _ (512 * n + 256 * s.val) 256, ← add_assoc]
    congr 1
    rw [← sum_rows fun u => (k (512 * n + 256 * s.val + u) (col h i) : EReal) * (v (512 * n + 256 * s.val + u) (col h j) : EReal)]
    refine sum_congr rfl fun u _ => ?_
    rw [piece_apply, piece_apply, hk, hv]
    show (k (512 * n + (256 * s.val + u.val)) _ : EReal) * (v (512 * n + (256 * s.val + u.val)) _ : EReal) = _
    rw [add_assoc]
  have h0 : head st h (ix3 0 i j) = s0 h i j + ∑ u ∈ range (512 * n + 256 * (0 : Fin 2).val), (k u (col h i) : EReal) * (v u (col h j) : EReal) :=
    (head_apply st h i j).trans (hst h i j)
  have h1 := hstep 0 _ h0
  intro σ hσ
  match σ, hσ with
  | 0, _ => exact h0
  | 1, _ => exact h1
  | 2, _ => exact hstep 1 _ h1

/-- The state after the point. -/
theorem after_apply (h : Fin 32) (i j : Fin 64) :
    after Q st (ix3 h i j) = s0 h i j + ∑ u ∈ range (512 * (n + 1)), (k u (col h i) : EReal) * (v u (col h j) : EReal) :=
  carried_apply n Q st k v s0 hk hv hst h i j 2 (by omega)

include hq

/-- A row of the point's result. -/
theorem row_apply (hn : n < 8) (x : Vec Ideal S512x2048 .f32) (em : Vec Ideal S2048x32 .bf16) (et : Vec Ideal S32x2048 .bf16)
    (g : Vec Ideal S1x2048 .f32) (γ : Fin 2048 → ℝ)
    (hem : ∀ l e, em (ix2 l e) = if l.val / 64 = e.val then (1 : EReal) else 0)
    (het : ∀ e l, et (ix2 e l) = if l.val / 64 = e.val then (1 : EReal) else 0)
    (hg : ∀ c, g (ix2 0 c) = (γ c : EReal)) (s : Fin 2) (r : Fin 256) (h : Fin 32) (i : Fin 64) :
    block n x Q em et g st (ix2 (rowIx s r) (col h i))
      = x (ix2 (rowIx s r) (col h i))
        + ∑ j, (s0 h i j + ∑ u ∈ range (512 * n + 256 * s.val + r.val + 1),
            ((γ (col h i) : EReal) + (k u (col h i) : EReal) * (v u (col h j) : EReal)))
          * (q (512 * n + 256 * s.val + r.val) (col h j) : EReal) := by
  have hc : AttnHead.count (BitVec.ofNat 32 n) (BitVec.ofNat 32 s.val) (ix2 r 0) = (((512 * n + 256 * s.val + r.val + 1 : ℕ) : ℝ) : EReal) := by
    exact count_apply n hn s r
  have hp : ∀ (o : Fin 3) (u : Fin 256) (c : Fin 2048), piece Q s o (ix2 u c) = Q (ix2 (rowIx s u) (third o c)) := fun o u c => piece_apply Q s o u c
  have hrow : ∀ u : Fin 256, 512 * n + (rowIx s u).val = 512 * n + 256 * s.val + u.val := fun u =>
    (Nat.add_assoc _ _ _).symm
  rw [block_apply, group, rows_apply, out_apply, rowsOf_apply, hc, hg]
  simp only [hem, het, hp, hq, hk, hv, hrow, carried_apply n Q st k v s0 hk hv hst h i _ s.val (by omega)]
  rw [sum_head (fun l => (q (512 * n + 256 * s.val + r.val) l : EReal)) h i,
    sum_upto (fun u => ∑ j : Fin 64, (q (512 * n + 256 * s.val + r.val) (col h j) : EReal) * (v (512 * n + 256 * s.val + u) (col h j) : EReal))
      (fun u => (k (512 * n + 256 * s.val + u) (col h i) : EReal)) r, add_assoc]
  congr 1
  exact AttnSum.row (fun j => s0 h i j) (γ (col h i)) (fun j => q (512 * n + 256 * s.val + r.val) (col h j)) (fun u => k u (col h i))
    (fun u j => v u (col h j)) (512 * n + 256 * s.val) r.val

end

end AttnBlock
-- ==== Proof.AttnPoints.lean ====
/-
  The 8 grid points of the attention kernel, one after the other: the first starts from the state given, each later one from
  the state the point before left.
-/
module

public import proofs.«01_k».proof.Proof.AttnRows
public import proofs.«01_k».proof.Proof.AttnState
public import proofs.«01_k».proof.Proof.AttnBlock

@[expose] public section

set_option maxRecDepth 16384

noncomputable section

namespace AttnPoints

open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)

/-- A point's coordinate is its number. -/
theorem coord : ∀ t : Fin cfg0.N, (grid0.coords t 0).val = t.val :=
  (by decide +kernel : ∀ t : Fin grid0.N, (grid0.coords t 0).val = t.val)

/-- The projections at a point. -/
def proj (t : Fin cfg0.N) : Vec Ideal S512x6144 .bf16 :=
  AttnProject.project (k0_pay5 (iblk m c 0 t) (iblk m c 2 t) (iblk m c 3 t)) (iblk m c 1 t)

/-- The result block of a point that starts from state `st`. -/
def rowsAt (t : Fin cfg0.N) (st : Vec Ideal S32x64x64 .f32) : Vec Ideal S512x2048 .f32 :=
  AttnStores.block t.val (iblk m c 0 t) (proj m c t) (iblk m c 4 t) (iblk m c 5 t) (iblk m c 6 t) st

/-- The first point starts from the state given. -/
theorem first (hn : 0 < cfg0.N) :
    (outsAt0 m c 0 hn).1 = rowsAt m c ⟨0, hn⟩ (k0_pay4 (iblk m c 7 ⟨0, hn⟩))
      ∧ (outsAt0 m c 0 hn).2.2 = AttnStores.after (proj m c ⟨0, hn⟩) (k0_pay4 (iblk m c 7 ⟨0, hn⟩)) := by
  rw [outsAt0_zero, stAt0_A m c ⟨0, hn⟩ _ (Nat.zero_mod _) (by dsimp only; omega)]
  dsimp only
  rw [AttnRows.rows_A, AttnState.state_A, coord]
  exact ⟨rfl, rfl⟩

/-- A later point starts from the state the point before left. -/
theorem next (n : ℕ) (hn : n + 1 < cfg0.N) :
    (outsAt0 m c (n + 1) hn).1 = rowsAt m c ⟨n + 1, hn⟩ (outsAt0 m c n (Nat.lt_of_succ_lt hn)).2.2
      ∧ (outsAt0 m c (n + 1) hn).2.2 = AttnStores.after (proj m c ⟨n + 1, hn⟩) (outsAt0 m c n (Nat.lt_of_succ_lt hn)).2.2 := by
  have hN : n + 1 < 8 := lt_of_lt_of_eq hn N_0
  rw [outsAt0_succ]
  by_cases h7 : (n + 1) % 8 = 7
  · rw [stAt0_C m c ⟨n + 1, hn⟩ _ (by dsimp only; omega) h7]
    dsimp only
    rw [AttnRows.rows_C, AttnState.state_C, coord]
    exact ⟨rfl, rfl⟩
  · rw [stAt0_B m c ⟨n + 1, hn⟩ _ (by dsimp only; omega) h7]
    dsimp only
    rw [AttnRows.rows_B, AttnState.state_B, coord]
    exact ⟨rfl, rfl⟩

/-- The last point also writes the final state. -/
theorem last (hn : 7 < cfg0.N) :
    (outsAt0 m c 7 hn).2.1 = k0_pay3 (outsAt0 m c 7 hn).2.2 (iblk m c 8 ⟨7, hn⟩) := by
  rw [(next m c 6 hn).2, outsAt0_succ, stAt0_C m c ⟨6 + 1, hn⟩ _ (by dsimp only; omega) (by dsimp only)]
  dsimp only
  rw [AttnState.final_C]
  rfl

end AttnPoints
-- ==== Proof.AttnOperands.lean ====
/-
  What the attention kernel's blocks hold before it runs, in terms of the arguments: the host lines before the kernel join the
  three weights, make two 0/1 matrices that tell which column belongs to which head, and spread the gate.
-/
module

public import proofs.«01_k».proof.Proof.AttnBlock
public import Idealize.ShloMosaic.Lib.Claim
public import Idealize.ShloMosaic.Lib.StableHlo.ReadAt

@[expose] public section

set_option maxRecDepth 16384

noncomputable section

namespace AttnOperands

open Cert.KernelIdeal Cert.KernelIdeal.Gen Idealize.ShloMosaic Idealize.ShloMosaic.TcCoe Idealize.SL.Sem AttnBlock AttnHead

variable (m : (ℓ : Loc nD τ sig) → Buf (Elt Ideal) ℓ) (c : Dev nD) (t : Fin cfg0.N)

/-- Where each point's blocks lie: the input rows and the result rows move together, the rest is read whole. -/
theorem idx : ∀ t : Fin cfg0.N, win0_0.index t 0 = t ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0 ∧ win0_4.index t 0 = 0 ∧ win0_4.index t 1 = 0
    ∧ win0_5.index t 0 = 0 ∧ win0_5.index t 1 = 0 ∧ win0_6.index t 0 = 0 ∧ win0_6.index t 1 = 0
    ∧ win0_7.index t 0 = 0 ∧ win0_7.index t 1 = 0 ∧ win0_7.index t 2 = 0 ∧ win0_8.index t 0 = 0 ∧ win0_8.index t 1 = 0 ∧ win0_8.index t 2 = 0
    ∧ win0_9.index t 0 = t ∧ win0_9.index t 1 = 0 := by decide +kernel

/-- The rows of a point. -/
theorem x_apply (r : Fin 512) (k : Fin 2048) (n : Fin 4096) (hn : n.val = 512 * t.val + r.val) :
    (iblk m c 0 t : Vec Ideal S512x2048 .f32) (ix2 r k) = (m ((c : Thread nD τ).loc main_arg0) : Vec Ideal S4096x2048 .f32) (ix2 n k) := by
  blk_point [iblk, V, idx t]

/-- The weight of the normalisation. -/
theorem w_apply (k : Fin 2048) :
    (iblk m c 2 t : Vec Ideal S1x2048 .f32) (ix2 0 k) = (m ((c : Thread nD τ).loc main_arg6) : Vec Ideal S2048 .f32) (ix1 k) := by
  have e : (iblk m c 2 t : Vec Ideal S1x2048 .f32) (ix2 0 k) = (V m c main_v0 : Vec Ideal S1x2048 .f32) (ix2 0 k) := by
    blk_point [iblk, idx t]
  rw [e]
  unfold V
  after_reads_at

/-- The bias of the normalisation. -/
theorem b_apply (k : Fin 2048) :
    (iblk m c 3 t : Vec Ideal S1x2048 .f32) (ix2 0 k) = (m ((c : Thread nD τ).loc main_arg7) : Vec Ideal S2048 .f32) (ix1 k) := by
  have e : (iblk m c 3 t : Vec Ideal S1x2048 .f32) (ix2 0 k) = (V m c main_v1 : Vec Ideal S1x2048 .f32) (ix2 0 k) := by
    blk_point [iblk, idx t]
  rw [e]
  unfold V
  after_reads_at

/-- The gate, one column for each head and coordinate. -/
theorem gate_apply (h : Fin 32) (i : Fin 64) :
    (iblk m c 6 t : Vec Ideal S1x2048 .f32) (ix2 0 (col h i)) = (m ((c : Thread nD τ).loc main_arg5) : Vec Ideal S32x64 .f32) (ix2 h i) := by
  have e : (iblk m c 6 t : Vec Ideal S1x2048 .f32) (ix2 0 (col h i)) = (V m c main_v2 : Vec Ideal S1x2048 .f32) (ix2 0 (col h i)) := by
    blk_point [iblk, idx t]
  rw [e, col]
  unfold V
  after_reads_at

/-- The state given. -/
theorem state_apply (h : Fin 32) (i j : Fin 64) :
    (iblk m c 7 t : Vec Ideal S32x64x64 .f32) (ix3 h i j) = (m ((c : Thread nD τ).loc main_arg1) : Vec Ideal S32x64x64 .f32) (ix3 h i j) := by
  blk_point [iblk, V, idx t]

/-- The gate times the number of rows. -/
theorem gfin_apply (h : Fin 32) (i j : Fin 64) :
    (iblk m c 8 t : Vec Ideal S32x64x64 .f32) (ix3 h i j)
      = Ideal.ofBits .f32 0x45800000#32 * (m ((c : Thread nD τ).loc main_arg5) : Vec Ideal S32x64 .f32) (ix2 h i) := by
  have e : (iblk m c 8 t : Vec Ideal S32x64x64 .f32) (ix3 h i j) = (V m c main_v23 : Vec Ideal S32x64x64 .f32) (ix3 h i j) := by
    blk_point [iblk, idx t]
  rw [e]
  unfold V
  after_reads_at

/-- The joined weights, at a column of one of the three. -/
theorem wqkv_read (l : Fin 2048) (k : Fin 2048) (o : Fin 3) :
    (iblk m c 1 t : Vec Ideal S2048x6144 .bf16) (ix2 l (third o k)) = (V m c main_v27 : Vec Ideal S2048x6144 .bf16) (ix2 l (third o k)) := by
  blk_point [iblk, idx t]

/-- The query weights. -/
theorem wq_apply (l k : Fin 2048) :
    (iblk m c 1 t : Vec Ideal S2048x6144 .bf16) (ix2 l (third 0 k)) = (m ((c : Thread nD τ).loc main_arg2) : Vec Ideal S2048x2048 .f32) (ix2 l k) := by
  rw [wqkv_read, third]
  unfold V
  after_reads_at
  after_reads_at

/-- The key weights. -/
theorem wk_apply (l k : Fin 2048) :
    (iblk m c 1 t : Vec Ideal S2048x6144 .bf16) (ix2 l (third 1 k)) = (m ((c : Thread nD τ).loc main_arg3) : Vec Ideal S2048x2048 .f32) (ix2 l k) := by
  rw [wqkv_read, third]
  unfold V
  after_reads_at
  after_reads_at

/-- The value weights. -/
theorem wv_apply (l k : Fin 2048) :
    (iblk m c 1 t : Vec Ideal S2048x6144 .bf16) (ix2 l (third 2 k)) = (m ((c : Thread nD τ).loc main_arg4) : Vec Ideal S2048x2048 .f32) (ix2 l k) := by
  rw [wqkv_read, third]
  unfold V
  after_reads_at
  rw [dif_neg (by omega), dif_neg (by omega)]
  after_reads_at
  have e : ∀ h, (⟨4096 + k.val - 2048 - 2048, h⟩ : Fin 2048) = k := fun h => Fin.ext (by dsimp only; omega)
  rw [e]

/-- The words of the host's floor division of a column's number by 64. -/
def headWord (l : ℕ) : BitVec 32 :=
  Scalar.select
    (IntOp.andi
      (IntOp.cmpi .ne (if BitVec.ofNat 32 l = 0 then (0 : BitVec 32) else if (BitVec.ofNat 32 l).msb = true then -1 else 1)
        (if (64#32 : BitVec 32) = 0 then (0 : BitVec 32) else if BitVec.msb (64#32) = true then -1 else 1))
      (IntOp.cmpi .ne (IntOp.remsi ArithUnit.host (BitVec.ofNat 32 l) 64#32) 0#32))
    (IntOp.subi (IntOp.divsi ArithUnit.host (BitVec.ofNat 32 l) 64#32) 1#32)
    (IntOp.divsi ArithUnit.host (BitVec.ofNat 32 l) 64#32)

/-- The division is the column's head. -/
theorem headWord_eq : ∀ l : Fin 2048, headWord l.val = BitVec.ofNat 32 (l.val / 64) := by
  decide +kernel

/-- A column's head compared with a head, as a float. -/
theorem bit_apply (a b : ℕ) (ha : a < 2 ^ 32) (hb : b < 2 ^ 32) :
    FloatOps.uitofp (F := Ideal) FTy.bf16 (IntOp.cmpi .eq (BitVec.ofNat 32 a) (BitVec.ofNat 32 b)) = if a = b then (1 : EReal) else 0 := by
  have e : IntOp.cmpi .eq (BitVec.ofNat 32 a) (BitVec.ofNat 32 b) = if a = b then 1#1 else 0#1 := by
    by_cases h : a = b
    · subst h
      simp [IntOp.cmpi]
    · have hne : BitVec.ofNat 32 a ≠ BitVec.ofNat 32 b := fun hh => h (by
        have := congrArg BitVec.toNat hh
        simpa only [BitVec.toNat_ofNat, Nat.mod_eq_of_lt ha, Nat.mod_eq_of_lt hb] using this)
      rw [if_neg h]
      show BitVec.ofBool (BitVec.ofNat 32 a == BitVec.ofNat 32 b) = 0#1
      rw [beq_eq_false_iff_ne.mpr hne]
      rfl
  rw [e]
  show (((if a = b then 1#1 else 0#1 : BitVec 1).toNat : ℝ) : EReal) = _
  by_cases h : a = b
  · simp [h]
  · simp [h]

/-- Which head a column belongs to, as a 0/1 matrix. -/
theorem em_apply (l : Fin 2048) (e : Fin 32) :
    (iblk m c 4 t : Vec Ideal S2048x32 .bf16) (ix2 l e) = if l.val / 64 = e.val then (1 : EReal) else 0 := by
  have h : (iblk m c 4 t : Vec Ideal S2048x32 .bf16) (ix2 l e) = (V m c main_v11 : Vec Ideal S2048x32 .bf16) (ix2 l e) := by
    blk_point [iblk, idx t]
  rw [h]
  unfold V
  after_reads_at
  refine Eq.trans ?_ (bit_apply (l.val / 64) e.val (by omega) (by omega))
  rw [← headWord_eq l]
  rfl

/-- The same matrix, rows and columns exchanged. -/
theorem et_apply (e : Fin 32) (l : Fin 2048) :
    (iblk m c 5 t : Vec Ideal S32x2048 .bf16) (ix2 e l) = if l.val / 64 = e.val then (1 : EReal) else 0 := by
  have h : (iblk m c 5 t : Vec Ideal S32x2048 .bf16) (ix2 e l) = (V m c main_v19 : Vec Ideal S32x2048 .bf16) (ix2 e l) := by
    blk_point [iblk, idx t]
  rw [h]
  unfold V
  after_reads_at
  have hs : (if l.val / 64 = e.val then (1 : EReal) else 0) = if e.val = l.val / 64 then (1 : EReal) else 0 :=
    if_congr eq_comm rfl rfl
  rw [hs]
  refine Eq.trans ?_ (bit_apply e.val (l.val / 64) (by omega) (by omega))
  rw [← headWord_eq l]
  rfl

end AttnOperands
-- ==== Proof.AttnFinite.lean ====
/-
  A normalised row is real wherever its weight and bias are, whatever the row holds; so are its products with real weights.
-/
module

public import proofs.«01_k».proof.Proof.Rows
public import proofs.«01_k».proof.Proof.AttnSum

@[expose] public section

noncomputable section

namespace AttnFinite

open Idealize.ShloMosaic Finset

/-- An extended real that is a real number. -/
def IsReal (x : EReal) : Prop := ∃ r : ℝ, x = r

/-- The product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A finite sum of reals is real. -/
theorem IsReal.sum {ι : Type} {s : Finset ι} {f : ι → EReal} (h : ∀ i, IsReal (f i)) : IsReal (∑ i ∈ s, f i) := by
  choose g hg using h
  exact ⟨∑ i ∈ s, g i, by rw [AttnSum.coe_sum]; exact sum_congr rfl fun i _ => hg i⟩

/-- The constant added to the variance is a positive real. -/
theorem eps_pos : ∃ e : ℝ, 0 < e ∧ Ideal.ofBits .f32 0x3727C5AC#32 = (e : EReal) := by
  simp [Ideal.ofBits, Ideal.ieee]
  rw [← EReal.coe_mul]
  exact ⟨_, by positivity, rfl⟩

/-- A square is not negative. -/
theorem sq_nonneg' (x : EReal) : 0 ≤ x * x := by
  induction x using EReal.rec with
  | bot => simp
  | top => simp
  | coe r => exact_mod_cast mul_self_nonneg r

/-- The square of what is not real is infinite. -/
theorem sq_top {x : EReal} (h : ¬ IsReal x) : x * x = ⊤ := by
  induction x using EReal.rec with
  | bot => simp
  | top => simp
  | coe r => exact absurd ⟨r, rfl⟩ h

/-- A distance from the mean, times the inverse root of the variance, is real. -/
theorem scaled (f : Fin 2048 → EReal) (j : Fin 2048) :
    IsReal ((f j - Rows.mean f) * Ideal.rsqrt (Rows.var f + Ideal.ofBits .f32 0x3727C5AC#32)) := by
  obtain ⟨e, he, hee⟩ := eps_pos
  rw [hee, Rows.var]
  generalize Rows.mean f = μ
  rw [Rows.mean, Rows.ofBits_2048, Ideal.div_coe (by norm_num)]
  by_cases hr : ∀ k, IsReal (f k - μ)
  · choose d hd using hr
    have hs : ∑ k, (f k - μ) * (f k - μ) = ((∑ k, d k * d k : ℝ) : EReal) := by
      rw [AttnSum.coe_sum]
      exact sum_congr rfl fun k _ => by rw [hd k, EReal.coe_mul]
    have hp : 0 < (∑ k, d k * d k) * (1 / 2048) + e :=
      add_pos_of_nonneg_of_pos (mul_nonneg (sum_nonneg fun k _ => mul_self_nonneg (d k)) (by norm_num)) he
    rw [hs, ← EReal.coe_mul, ← EReal.coe_add, Ideal.rsqrt_coe, if_neg hp.not_gt, if_neg hp.ne', hd j]
    exact IsReal.mul ⟨_, rfl⟩ ⟨_, rfl⟩
  · rw [not_forall] at hr
    obtain ⟨k, hk⟩ := hr
    have hs : ∑ k, (f k - μ) * (f k - μ) = ⊤ := by
      refine top_le_iff.1 ?_
      rw [← sq_top hk]
      exact single_le_sum (f := fun k => (f k - μ) * (f k - μ)) (fun i _ => sq_nonneg' _) (mem_univ k)
    rw [hs, EReal.top_mul_coe_of_pos (by norm_num), EReal.top_add_coe, Ideal.rsqrt_top, mul_zero]
    exact ⟨0, EReal.coe_zero.symm⟩

/-- A normalised row is real wherever its weight and bias are. -/
theorem norm_real (f w b : Fin 2048 → EReal) (j : Fin 2048) (hw : IsReal (w j)) (hb : IsReal (b j)) : IsReal (Rows.norm f w b j) :=
  ((scaled f j).mul hw).add hb

end AttnFinite
-- ==== Proof.AttnSpec.lean ====
/-
  The attention step in closed form: row `t` of the result and the final state, from the projections of the normalised rows.
-/
module

public import proofs.«01_k».proof.Proof.AttnHead
public import proofs.«01_k».proof.Proof.AttnFinite

@[expose] public section

noncomputable section

namespace AttnSpec

open Cert.KernelIdeal Idealize.ShloMosaic Finset AttnFinite AttnHead

/-- Column `c` of the projection by `W` of normalised row `t`. -/
def proj (x : Vec Ideal S4096x2048 .f32) (w b : Vec Ideal S2048 .f32) (W : Vec Ideal S2048x2048 .f32) (t : Fin 4096) (c : Fin 2048) : EReal :=
  ∑ l : Fin 2048, Rows.norm (fun k => x (ix2 t k)) (fun k => w (ix1 k)) (fun k => b (ix1 k)) l * W (ix2 l c)

/-- A projection by real weights, after a real normalisation, is real. -/
theorem proj_real (x : Vec Ideal S4096x2048 .f32) (w b : Vec Ideal S2048 .f32) (W : Vec Ideal S2048x2048 .f32)
    (hw : ∀ i, IsReal (w i)) (hb : ∀ i, IsReal (b i)) (hW : ∀ i, IsReal (W i)) (t : Fin 4096) (c : Fin 2048) : IsReal (proj x w b W t c) :=
  IsReal.sum fun l => (norm_real _ _ _ l (hw _) (hb _)).mul (hW _)

/-- The projections as real numbers, numbered by the time step. -/
def num (f : Fin 4096 → Fin 2048 → EReal) (u : ℕ) (c : Fin 2048) : ℝ := if h : u < 4096 then (f ⟨u, h⟩ c).toReal else 0

/-- A real projection is its number. -/
theorem num_eq (f : Fin 4096 → Fin 2048 → EReal) (t : Fin 4096) (c : Fin 2048) (h : IsReal (f t c)) : f t c = (num f t.val c : EReal) := by
  obtain ⟨r, hr⟩ := h
  rw [num, dif_pos t.isLt, hr, EReal.toReal_coe]

/-- Entry (h, i) of result row `t`: the row itself plus the product of the state after step `t` with the query. -/
def rowAt (x : Vec Ideal S4096x2048 .f32) (st : Vec Ideal S32x64x64 .f32) (g : Vec Ideal S32x64 .f32) (q k v : ℕ → Fin 2048 → ℝ)
    (t : Fin 4096) (h : Fin 32) (i : Fin 64) : EReal :=
  x (ix2 t (col h i)) + ∑ j : Fin 64, (st (ix3 h i j) + ∑ u ∈ range (t.val + 1), (g (ix2 h i) + (k u (col h i) : EReal) * (v u (col h j) : EReal)))
    * (q t.val (col h j) : EReal)

/-- Entry (h, i, j) of the state after the last step. -/
def finalAt (st : Vec Ideal S32x64x64 .f32) (g : Vec Ideal S32x64 .f32) (k v : ℕ → Fin 2048 → ℝ) (h : Fin 32) (i j : Fin 64) : EReal :=
  st (ix3 h i j) + ∑ u ∈ range 4096, (g (ix2 h i) + (k u (col h i) : EReal) * (v u (col h j) : EReal))

/-- The head of a column. -/
def headOf (c : Fin 2048) : Fin 32 := ⟨c.val / 64, by omega⟩

/-- The coordinate of a column within its head. -/
def coordOf (c : Fin 2048) : Fin 64 := ⟨c.val % 64, by omega⟩

/-- The head of column `col h i`. -/
theorem headOf_col (h : Fin 32) (i : Fin 64) : headOf (col h i) = h := Fin.ext (by simp only [headOf, col]; omega)

/-- The coordinate of column `col h i`. -/
theorem coordOf_col (h : Fin 32) (i : Fin 64) : coordOf (col h i) = i := Fin.ext (by simp only [coordOf, col]; omega)

/-- Every column belongs to a head. -/
theorem exists_col (c : Fin 2048) : ∃ h i, c = col h i := ⟨headOf c, coordOf c, Fin.ext (by simp only [headOf, coordOf, col]; omega)⟩

/-- The result rows as an array. -/
def rows (x : Vec Ideal S4096x2048 .f32) (st : Vec Ideal S32x64x64 .f32) (g : Vec Ideal S32x64 .f32) (q k v : ℕ → Fin 2048 → ℝ) :
    Vec Ideal S4096x2048 .f32 := fun i => rowAt x st g q k v (i 0) (headOf (i 1)) (coordOf (i 1))

/-- The array of rows, place by place. -/
theorem rows_apply (x : Vec Ideal S4096x2048 .f32) (st : Vec Ideal S32x64x64 .f32) (g : Vec Ideal S32x64 .f32) (q k v : ℕ → Fin 2048 → ℝ)
    (t : Fin 4096) (h : Fin 32) (i : Fin 64) : rows x st g q k v (ix2 t (col h i)) = rowAt x st g q k v t h i := by
  show rowAt x st g q k v t (headOf (col h i)) (coordOf (col h i)) = _
  rw [headOf_col, coordOf_col]

/-- The final state as an array. -/
def final (st : Vec Ideal S32x64x64 .f32) (g : Vec Ideal S32x64 .f32) (k v : ℕ → Fin 2048 → ℝ) : Vec Ideal S32x64x64 .f32 :=
  fun i => finalAt st g k v (i 0) (i 1) (i 2)

end AttnSpec
-- ==== Proof.AttnArray.lean ====
/-
  What the attention kernel's two result arrays hold after the run: the rows and the final state of `AttnSpec`.
-/
module

public import proofs.«01_k».proof.Proof.AttnPoints
public import proofs.«01_k».proof.Proof.AttnOperands
public import proofs.«01_k».proof.Proof.AttnSpec

@[expose] public section

set_option maxRecDepth 16384

noncomputable section

namespace AttnArray

open Cert.KernelIdeal Cert.KernelIdeal.Gen Cert.KernelIdeal.Value Idealize.ShloMosaic Idealize.ShloMosaic.TcCoe Idealize.SL.Sem
open Finset AttnHead AttnBlock AttnFinite

/-- A normalised row of a point's block. -/
theorem pay5_apply (x : Vec Ideal S512x2048 .f32) (w b : Vec Ideal S1x2048 .f32) (r : Fin 512) (j : Fin 2048) :
    k0_pay5 x w b (ix2 r j) = Rows.norm (fun k => x (ix2 r k)) (fun k => w (ix2 0 k)) (fun k => b (ix2 0 k)) j := by
  pointwise [k0_pay5, Rows.norm, Rows.var, Rows.mean]

/-- The state the first point starts from is the one given. -/
theorem pay4_apply (s : Vec Ideal S32x64x64 .f32) (h : Fin 32) (i j : Fin 64) : k0_pay4 s (ix3 h i j) = s (ix3 h i j) := by
  pointwise [k0_pay4]

/-- The final state is the carried one plus the gate's share. -/
theorem pay3_apply (s g : Vec Ideal S32x64x64 .f32) (h : Fin 32) (i j : Fin 64) :
    k0_pay3 s g (ix3 h i j) = s (ix3 h i j) + g (ix3 h i j) := by
  pointwise [k0_pay3]

/-- Every row of a block lies in a group. -/
theorem exists_row (a : Fin 512) : ∃ s r, a = rowIx s r :=
  ⟨⟨a.val / 256, by omega⟩, ⟨a.val % 256, by omega⟩, Fin.ext (by simp only [rowIx]; omega)⟩

/-- The bit pattern of the number of steps. -/
theorem ofBits_4096 : Ideal.ofBits .f32 0x45800000#32 = (4096 : ℝ) := by
  simp [Ideal.ofBits, Ideal.ieee]
  rw [← EReal.coe_mul]
  norm_num

variable (m : (ℓ : Loc nD τ sig) → Buf (Elt Ideal) ℓ) (c : Dev nD)

/-- The rows. -/
abbrev X : Vec Ideal S4096x2048 .f32 := m ((c : Thread nD τ).loc main_arg0)
/-- The state given. -/
abbrev St : Vec Ideal S32x64x64 .f32 := m ((c : Thread nD τ).loc main_arg1)
/-- The query weights. -/
abbrev Wq : Vec Ideal S2048x2048 .f32 := m ((c : Thread nD τ).loc main_arg2)
/-- The key weights. -/
abbrev Wk : Vec Ideal S2048x2048 .f32 := m ((c : Thread nD τ).loc main_arg3)
/-- The value weights. -/
abbrev Wv : Vec Ideal S2048x2048 .f32 := m ((c : Thread nD τ).loc main_arg4)
/-- The gate. -/
abbrev G : Vec Ideal S32x64 .f32 := m ((c : Thread nD τ).loc main_arg5)
/-- The normalisation's weight. -/
abbrev Lw : Vec Ideal S2048 .f32 := m ((c : Thread nD τ).loc main_arg6)
/-- The normalisation's bias. -/
abbrev Lb : Vec Ideal S2048 .f32 := m ((c : Thread nD τ).loc main_arg7)

/-- A third of a point's projections is the projection of the point's rows by the weights that stand there. -/
theorem proj_apply (t : Fin cfg0.N) (o : Fin 3) (W : Vec Ideal S2048x2048 .f32)
    (hW : ∀ l k, (iblk m c 1 t : Vec Ideal S2048x6144 .bf16) (ix2 l (third o k)) = W (ix2 l k)) (u : Fin 512) (k : Fin 2048)
    (n : Fin 4096) (hn : n.val = 512 * t.val + u.val) :
    AttnPoints.proj m c t (ix2 u (third o k)) = AttnSpec.proj (X m c) (Lw m c) (Lb m c) W n k := by
  rw [AttnPoints.proj, AttnProject.project, AttnSpec.proj]
  refine sum_congr rfl fun l _ => ?_
  have e0 : (fun k => (iblk m c 0 t : Vec Ideal S512x2048 .f32) (ix2 u k)) = fun k => X m c (ix2 n k) :=
    funext fun k => AttnOperands.x_apply m c t u k n hn
  have e2 : (fun k => (iblk m c 2 t : Vec Ideal S1x2048 .f32) (ix2 0 k)) = fun k => Lw m c (ix1 k) :=
    funext fun k => AttnOperands.w_apply m c t k
  have e3 : (fun k => (iblk m c 3 t : Vec Ideal S1x2048 .f32) (ix2 0 k)) = fun k => Lb m c (ix1 k) :=
    funext fun k => AttnOperands.b_apply m c t k
  rw [← e0, ← e2, ← e3, ← pay5_apply, ← hW]
  rfl

/-- The parameters on a device are real. -/
structure Real : Prop where
  wq : ∀ i, IsReal (Wq m c i)
  wk : ∀ i, IsReal (Wk m c i)
  wv : ∀ i, IsReal (Wv m c i)
  g : ∀ i, IsReal (G m c i)
  lw : ∀ i, IsReal (Lw m c i)
  lb : ∀ i, IsReal (Lb m c i)

/-- The queries. -/
def q : ℕ → Fin 2048 → ℝ := AttnSpec.num (AttnSpec.proj (X m c) (Lw m c) (Lb m c) (Wq m c))
/-- The keys. -/
def k : ℕ → Fin 2048 → ℝ := AttnSpec.num (AttnSpec.proj (X m c) (Lw m c) (Lb m c) (Wk m c))
/-- The values. -/
def v : ℕ → Fin 2048 → ℝ := AttnSpec.num (AttnSpec.proj (X m c) (Lw m c) (Lb m c) (Wv m c))

/-- A third of a point's projections, as real numbers. -/
theorem num_apply (hr : Real m c) (t : Fin cfg0.N) (o : Fin 3) (W : Vec Ideal S2048x2048 .f32) (hWr : ∀ i, IsReal (W i))
    (hW : ∀ l k, (iblk m c 1 t : Vec Ideal S2048x6144 .bf16) (ix2 l (third o k)) = W (ix2 l k)) (u : Fin 512) (k : Fin 2048) :
    AttnPoints.proj m c t (ix2 u (third o k))
      = (AttnSpec.num (AttnSpec.proj (X m c) (Lw m c) (Lb m c) W) (512 * t.val + u.val) k : EReal) := by
  have ht : t.val < 8 := lt_of_lt_of_eq t.isLt N_0
  rw [proj_apply m c t o W hW u k ⟨512 * t.val + u.val, by omega⟩ rfl]
  exact AttnSpec.num_eq _ _ _ (AttnSpec.proj_real _ _ _ _ hr.lw hr.lb hWr _ _)

variable (hr : Real m c)
include hr

/-- The queries of a point's rows. -/
theorem hq (t : Fin cfg0.N) (u : Fin 512) (l : Fin 2048) :
    AttnPoints.proj m c t (ix2 u (third 0 l)) = (q m c (512 * t.val + u.val) l : EReal) :=
  num_apply m c hr t 0 _ hr.wq (AttnOperands.wq_apply m c t) u l

/-- The keys of a point's rows. -/
theorem hk (t : Fin cfg0.N) (u : Fin 512) (l : Fin 2048) :
    AttnPoints.proj m c t (ix2 u (third 1 l)) = (k m c (512 * t.val + u.val) l : EReal) :=
  num_apply m c hr t 1 _ hr.wk (AttnOperands.wk_apply m c t) u l

/-- The values of a point's rows. -/
theorem hv (t : Fin cfg0.N) (u : Fin 512) (l : Fin 2048) :
    AttnPoints.proj m c t (ix2 u (third 2 l)) = (v m c (512 * t.val + u.val) l : EReal) :=
  num_apply m c hr t 2 _ hr.wv (AttnOperands.wv_apply m c t) u l

/-- Point `n` starts from the state after `512 * n` steps, less the gate's share. -/
theorem start (n : ℕ) (hn : n < cfg0.N) : ∃ S : Vec Ideal S32x64x64 .f32,
    (outsAt0 m c n hn).1 = AttnPoints.rowsAt m c ⟨n, hn⟩ S ∧ (outsAt0 m c n hn).2.2 = AttnStores.after (AttnPoints.proj m c ⟨n, hn⟩) S
      ∧ ∀ h i j, S (ix3 h i j) = St m c (ix3 h i j) + ∑ u ∈ range (512 * n), (k m c u (col h i) : EReal) * (v m c u (col h j) : EReal) := by
  induction n with
  | zero =>
    refine ⟨_, (AttnPoints.first m c hn).1, (AttnPoints.first m c hn).2, fun h i j => ?_⟩
    rw [pay4_apply, AttnOperands.state_apply, mul_zero, range_zero, sum_empty, add_zero]
  | succ n ih =>
    obtain ⟨S, -, hS, hst⟩ := ih (Nat.lt_of_succ_lt hn)
    refine ⟨_, (AttnPoints.next m c n hn).1, (AttnPoints.next m c n hn).2, fun h i j => ?_⟩
    rw [hS]
    exact after_apply n _ S (k m c) (v m c) (fun h i j => St m c (ix3 h i j)) (hk m c hr ⟨n, _⟩) (hv m c hr ⟨n, _⟩) hst h i j

/-- A row of a point's result block. -/
theorem row_eq (t : Fin cfg0.N) (s : Fin 2) (r : Fin 256) (h : Fin 32) (i : Fin 64) (n : Fin 4096)
    (hn : n.val = 512 * t.val + 256 * s.val + r.val) :
    (outsAt0 m c t.val t.isLt).1 (ix2 (rowIx s r) (col h i)) = AttnSpec.rowAt (X m c) (St m c) (G m c) (q m c) (k m c) (v m c) n h i := by
  obtain ⟨S, h1, -, hst⟩ := start m c hr t.val t.isLt
  have hg : ∀ l : Fin 2048, IsReal ((iblk m c 6 t : Vec Ideal S1x2048 .f32) (ix2 0 l)) := fun l => by
    obtain ⟨h, i, rfl⟩ := AttnSpec.exists_col l
    rw [AttnOperands.gate_apply]
    exact hr.g _
  choose γ hγ using hg
  rw [h1, AttnPoints.rowsAt, row_apply t.val _ S (q m c) (k m c) (v m c) (fun h i j => St m c (ix3 h i j)) (hq m c hr t) (hk m c hr t)
    (hv m c hr t) hst (lt_of_lt_of_eq t.isLt N_0) _ _ _ _ γ (AttnOperands.em_apply m c t) (AttnOperands.et_apply m c t) hγ s r h i,
    ← hγ, AttnOperands.gate_apply, AttnOperands.x_apply m c t (rowIx s r) (col h i) n (by rw [hn, rowIx]; dsimp only; omega), ← hn]
  rfl

/-- The first result array after the run. -/
theorem rows_final : (dats m 0 c).arrAt 9 cfg0.N = AttnSpec.rows (X m c) (St m c) (G m c) (q m c) (k m c) (v m c) := by
  refine (dats m 0 c).arrAt_eq_of_covers 9 _ (by decide +kernel) fun t hf y => ?_
  have ht : t.val < 8 := lt_of_lt_of_eq t.isLt N_0
  idx_vars y
  obtain ⟨s, r, rfl⟩ := exists_row y0
  obtain ⟨h, i, rfl⟩ := AttnSpec.exists_col y1
  blk_simp
  rw [after0_9, row_eq m c hr t s r h i ⟨512 * t.val + 256 * s.val + r.val, by omega⟩ rfl, ← AttnSpec.rows_apply]
  generalize AttnSpec.rows (X m c) (St m c) (G m c) (q m c) (k m c) (v m c) = R
  blk_point [AttnOperands.idx t, rowIx]

/-- The second result array after the run. -/
theorem state_final : (dats m 0 c).arrAt 10 cfg0.N = AttnSpec.final (St m c) (G m c) (k m c) (v m c) := by
  have h7 : 7 < cfg0.N := lt_of_lt_of_eq (by decide) N_0.symm
  obtain ⟨S, -, hS, hst⟩ := start m c hr 7 h7
  obtain ⟨g, hg⟩ : ∃ g : Fin 32 → Fin 64 → ℝ, ∀ h i, G m c (ix2 h i) = (g h i : EReal) := by
    choose g hg using fun h i => hr.g (ix2 h i)
    exact ⟨g, hg⟩
  rw [final10, G10_last, ← outsAt0_sweep m c 7 h7, AttnPoints.last m c h7, hS]
  funext y
  idx_vars y
  generalize y0 = h, y1 = i, y2 = j
  rw [pay3_apply, AttnOperands.gfin_apply, after_apply 7 _ S (k m c) (v m c) (fun h i j => St m c (ix3 h i j)) (hk m c hr ⟨7, h7⟩)
    (hv m c hr ⟨7, h7⟩) hst h i j, ofBits_4096]
  show _ = AttnSpec.finalAt _ _ _ _ h i j
  rw [AttnSpec.finalAt]
  have e : (m ((c : Thread nD τ).loc main_arg5) : Vec Ideal S32x64 .f32) (ix2 h i) = (g h i : EReal) := hg h i
  have e' := AttnSum.last (St m c (ix3 h i j)) (g h i) (fun u => k m c u (col h i)) (fun u => v m c u (col h j)) 4096
  rw [hg h i, ← e', e]
  norm_num

end AttnArray
-- ==== Proof.AttnCumsum.lean ====
/-
  The cumulative sum over time that the reference of the attention call takes: row `t` of the result is the sum of rows
  `0 … t`.
-/
module

public import proofs.«01_k».proof.Proof.Gen.ReferenceIdeal.Read
public import Idealize.ShloMosaic.Lib.Pointwise

@[expose] public section

set_option maxRecDepth 16384

noncomputable section

namespace AttnCumsum

open Cert.ReferenceIdeal Idealize.ShloMosaic Finset

/-- A left fold of additions is the start plus the sum. -/
theorem foldl_sum {ι : Type} (l : List ι) (g : ι → EReal) (v : EReal) : l.foldl (fun r a => r + g a) v = v + (l.map g).sum := by
  induction l generalizing v with
  | nil => simp
  | cons a l ih => rw [List.foldl_cons, ih, List.map_cons, List.sum_cons, add_assoc]

/-- A window of `n + 1` entries that ends at entry `t`, with nothing before entry 0, sums the entries `0 … t`. -/
theorem window_sum (f : ℕ → EReal) (t n : ℕ) (ht : t ≤ n) :
    ∑ w ∈ range (n + 1), (if n ≤ t + w then f (t + w - n) else 0) = ∑ u ∈ range (t + 1), f u := by
  rw [show n + 1 = (n - t) + (t + 1) by omega, sum_range_add, sum_eq_zero, zero_add]
  · refine sum_congr rfl fun u hu => ?_
    have := mem_range.1 hu
    rw [if_pos (by omega)]
    exact congrArg f (by omega)
  · intro u hu
    have := mem_range.1 hu
    exact if_neg (by omega)

/-- The window's shape: all of time, one place along the other axes. -/
abbrev W (n : ℕ) : Shape := ⟨4, ![n + 1, 1, 1, 1]⟩

/-- The window has as many places as there are times. -/
theorem numel_W (n : ℕ) : (W n).numel = n + 1 := by
  rw [Shape.numel, Fin.prod_univ_four]
  simp

/-- Place `p` of the window is at `p` along time, and at 0 along the other axes. -/
theorem place (n : ℕ) (p : Fin (W n).numel) : ((W n).rowMajor.symm p 0).val = p.val ∧ ((W n).rowMajor.symm p 1).val = 0
    ∧ ((W n).rowMajor.symm p 2).val = 0 ∧ ((W n).rowMajor.symm p 3).val = 0 := by
  have h1 : ((W n).rowMajor.symm p 1).val < 1 := ((W n).rowMajor.symm p 1).isLt
  have h2 : ((W n).rowMajor.symm p 2).val < 1 := ((W n).rowMajor.symm p 2).isLt
  have h3 : ((W n).rowMajor.symm p 3).val < 1 := ((W n).rowMajor.symm p 3).isLt
  have h := Shape.rowMajor_val_four ((W n).rowMajor.symm p)
  rw [Equiv.apply_symm_apply] at h
  change p.val = ((((W n).rowMajor.symm p 0).val * 1 + ((W n).rowMajor.symm p 1).val) * 1 + ((W n).rowMajor.symm p 2).val) * 1
    + ((W n).rowMajor.symm p 3).val at h
  omega

/-- The shape of a state at every time. -/
abbrev T (n A B C : ℕ) : Shape := ⟨4, ![n + 1, A, B, C]⟩

/-- The cumulative sum over time, place by place, at any number of times. -/
theorem fold_apply {n A B C : ℕ} (x : (T n A B C).Idx → EReal)
    (hw : (T n A B C).ReduceWindows (![n + 1, 1, 1, 1] : Fin 4 → ℕ) ![1, 1, 1, 1] ![n, 0, 0, 0] ![0, 0, 0, 0] (T n A B C))
    (hu : 0 < (⟨0, ![]⟩ : Shape).numel) (f : ℕ → EReal) (t : Fin (n + 1)) (h : Fin A) (i : Fin B) (j : Fin C)
    (hx : ∀ u : Fin (n + 1), x (ix4 u h i j) = f u) :
    Host.reduceWindow (u := ⟨0, ![]⟩) (· + ·) ![n + 1, 1, 1, 1] ![1, 1, 1, 1] ![n, 0, 0, 0] ![0, 0, 0, 0] x (fun _ => (0 : EReal)) hw hu (ix4 t h i j)
      = ∑ u ∈ range (t.val + 1), f u := by
  unfold Host.reduceWindow
  refine (foldl_sum _ _ _).trans ?_
  rw [zero_add, ← window_sum f t.val n (by omega)]
  refine Eq.trans ?_ ((Fin.sum_univ_eq_sum_range (fun w => if n ≤ t.val + w then f (t.val + w - n) else 0) (W n).numel).trans
    (congrArg (fun k => ∑ w ∈ range k, (if n ≤ t.val + w then f (t.val + w - n) else 0)) (numel_W n)))
  rw [Fin.sum_univ_def]
  refine congrArg List.sum (List.map_congr_left fun p _ => ?_)
  obtain ⟨p0, p1, p2, p3⟩ := place n p
  have hn : p.val < n + 1 := lt_of_lt_of_eq p.isLt (numel_W n)
  have ht := t.isLt
  dsimp only
  split
  · next hin =>
    have h0 := (hin 0).1
    change n ≤ t.val * 1 + ((W n).rowMajor.symm p 0).val at h0
    rw [p0] at h0
    rw [if_pos (by omega)]
    refine (congrArg x (funext fun a => Fin.ext ?_)).trans (hx ⟨t.val + p.val - n, by omega⟩)
    match a with
    | ⟨0, _⟩ =>
      show t.val * 1 + ((W n).rowMajor.symm p 0).val - n = t.val + p.val - n
      omega
    | ⟨1, _⟩ =>
      show h.val * 1 + ((W n).rowMajor.symm p 1).val - 0 = h.val
      omega
    | ⟨2, _⟩ =>
      show i.val * 1 + ((W n).rowMajor.symm p 2).val - 0 = i.val
      omega
    | ⟨3, _⟩ =>
      show j.val * 1 + ((W n).rowMajor.symm p 3).val - 0 = j.val
      omega
  · next hin =>
    rw [if_neg fun hle => hin fun a => by
      match a with
      | ⟨0, _⟩ =>
        show n ≤ t.val * 1 + ((W n).rowMajor.symm p 0).val ∧ t.val * 1 + ((W n).rowMajor.symm p 0).val - n < n + 1
        omega
      | ⟨1, _⟩ =>
        show 0 ≤ h.val * 1 + ((W n).rowMajor.symm p 1).val ∧ h.val * 1 + ((W n).rowMajor.symm p 1).val - 0 < A
        omega
      | ⟨2, _⟩ =>
        show 0 ≤ i.val * 1 + ((W n).rowMajor.symm p 2).val ∧ i.val * 1 + ((W n).rowMajor.symm p 2).val - 0 < B
        omega
      | ⟨3, _⟩ =>
        show 0 ≤ j.val * 1 + ((W n).rowMajor.symm p 3).val ∧ j.val * 1 + ((W n).rowMajor.symm p 3).val - 0 < C
        omega]

/-- The ideal window sum is the fold of additions. -/
theorem sum_eq_fold {s : Shape} (window strides lo hi : Fin s.rank → ℕ) (x : s.Idx → EReal) (init : S_.Idx → EReal) (z : EReal)
    (hinit : ∀ i, init i = z) (hw : s.ReduceWindows window strides lo hi s) (hu : 0 < S_.numel) (hu' : 0 < (⟨0, ![]⟩ : Shape).numel) :
    Host.reduceWindowAdd (F := Ideal) (φ := .f32) window strides lo hi x init hw hu
      = Host.reduceWindow (u := ⟨0, ![]⟩) (· + ·) window strides lo hi x (fun _ => z) hw hu' := by
  rw [← hinit (Shape.Idx.first hu)]
  rfl

/-- The reference's cumulative sum over time, place by place. -/
theorem cumsum_apply (x : S4096x32x64x64.Idx → EReal) (init : S_.Idx → EReal) (hinit : ∀ i, init i = (0 : EReal))
    (hw : S4096x32x64x64.ReduceWindows ![4096, 1, 1, 1] ![1, 1, 1, 1] ![4095, 0, 0, 0] ![0, 0, 0, 0] S4096x32x64x64) (hu : 0 < S_.numel)
    (f : ℕ → EReal) (t : Fin 4096) (h : Fin 32) (i j : Fin 64) (hx : ∀ u : Fin 4096, x (ix4 u h i j) = f u) :
    Host.reduceWindowAdd (F := Ideal) (φ := .f32) ![4096, 1, 1, 1] ![1, 1, 1, 1] ![4095, 0, 0, 0] ![0, 0, 0, 0] x init hw hu (ix4 t h i j)
      = ∑ u ∈ range (t.val + 1), f u :=
  (congrFun (sum_eq_fold _ _ _ _ x init 0 hinit hw hu (by decide)) (ix4 t h i j)).trans
    (fold_apply (n := 4095) x hw (by decide) f t h i j hx)

end AttnCumsum
-- ==== Proof.AttnReference.lean ====
/-
  What the attention's reference computes: the rows and the final state of `AttnSpec`.
-/
module

public import proofs.«01_k».proof.Proof.Gen.ReferenceIdeal.Read
public import proofs.«01_k».proof.Proof.AttnCumsum
public import proofs.«01_k».proof.Proof.AttnSpec
public import Idealize.ShloMosaic.Lib.Pointwise

@[expose] public section

set_option maxRecDepth 16384

noncomputable section

namespace AttnReference

open Cert.ReferenceIdeal Cert.ReferenceIdeal.Read Idealize.ShloMosaic Finset AttnFinite AttnHead

/-- The constant 2048 less the integer zero is 2048. -/
theorem count_eq (i : S_.Idx) : val_main_call0_v8 (F := Ideal) i = Ideal.ofBits .f32 0x45000000#32 := by
  pointwise [val_main_call0_v8, val_main_call0_v7, val_main_call0_cst_1, val_main_c]
  have h : FloatOps.sitofp (F := Ideal) .f32 (0#32) = 0 := by
    show (((0#32 : BitVec 32).toInt : ℝ) : EReal) = 0
    simp
  rw [h, sub_zero]

variable (x : Vec Ideal S4096x2048 .f32) (st : Vec Ideal S32x64x64 .f32) (Wq Wk Wv : Vec Ideal S2048x2048 .f32)
  (g : Vec Ideal S32x64 .f32) (w b : Vec Ideal S2048 .f32)

/-- The variance: the row count is positive, so the quotient is taken. -/
theorem var_apply (r : Fin 4096) : val_main_v4 x (ix2 r 0) = Rows.var (fun k => x (ix2 r k)) := by
  pointwise [val_main_v4, val_main_call0_v13, val_main_call0_v12, val_main_call0_v11, val_main_call0_v10, val_main_call0_v9,
    val_main_call0_v6, val_main_call0_v5, val_main_call0_v4, val_main_call0_v3, val_main_call0_v2, val_main_call0_v1, val_main_call0_v0,
    val_main_call0_cst_2, val_main_call0_cst_3, val_main_call0_cst, val_main_call0_cst_0, count_eq, Rows.var, Rows.mean]
  rw [if_pos (by rw [Rows.ofBits_2048]; exact_mod_cast (by norm_num : (0 : ℝ) < 2048))]

/-- A row of the reference's normalised array. -/
theorem norm_apply (r : Fin 4096) (j : Fin 2048) :
    val_main_v17 x w b (ix2 r j) = Rows.norm (fun k => x (ix2 r k)) (fun k => w (ix1 k)) (fun k => b (ix1 k)) j := by
  pointwise [val_main_v17, val_main_v16, val_main_v15, val_main_v14, val_main_v13, val_main_v12, val_main_v11, val_main_v10, val_main_v9,
    val_main_v8, val_main_v7, val_main_v6, val_main_v5, val_main_v3, val_main_v2, val_main_v1, val_main_v0, val_main_cst, val_main_cst_0,
    val_main_cst_1, var_apply, Rows.norm, Rows.mean]

/-- The place of a head's coordinate in a row. -/
theorem place (t : Fin 4096) (h : Fin 32) (i : Fin 64) (a : S4096x2048.Idx) (h0 : (a 0).val = ((t.val * 32 + h.val) * 64 + i.val) / 2048)
    (h1 : (a 1).val = ((t.val * 32 + h.val) * 64 + i.val) % 2048) : a = ix2 t (col h i) := by
  refine funext fun d => Fin.ext ?_
  fin_cases d
  · refine h0.trans ?_
    show _ = t.val
    omega
  · refine h1.trans ?_
    show _ = 64 * h.val + i.val
    omega

/-- The queries. -/
theorem q_apply (t : Fin 4096) (h : Fin 32) (i : Fin 64) :
    val_main_v19 x Wq w b (ix3 t h i) = AttnSpec.proj x w b Wq t (col h i) := by
  rw [val_main_v19_apply, place t h i (idx_main_v19 (ix3 t h i)) rfl rfl]
  pointwise [val_main_v18, norm_apply, AttnSpec.proj]

/-- The keys. -/
theorem k_apply (t : Fin 4096) (h : Fin 32) (i : Fin 64) :
    val_main_v21 x Wk w b (ix3 t h i) = AttnSpec.proj x w b Wk t (col h i) := by
  rw [val_main_v21_apply, place t h i (idx_main_v21 (ix3 t h i)) rfl rfl]
  pointwise [val_main_v20, norm_apply, AttnSpec.proj]

/-- The values. -/
theorem v_apply (t : Fin 4096) (h : Fin 32) (i : Fin 64) :
    val_main_v23 x Wv w b (ix3 t h i) = AttnSpec.proj x w b Wv t (col h i) := by
  rw [val_main_v23_apply, place t h i (idx_main_v23 (ix3 t h i)) rfl rfl]
  pointwise [val_main_v22, norm_apply, AttnSpec.proj]

/-- What a step adds to the state. -/
theorem upd_apply (t : Fin 4096) (h : Fin 32) (i j : Fin 64) :
    val_main_v31 x Wk Wv g w b (ix4 t h i j)
      = g (ix2 h i) + AttnSpec.proj x w b Wk t (col h i) * AttnSpec.proj x w b Wv t (col h j) := by
  rw [← k_apply, ← v_apply]
  generalize hk : val_main_v21 x Wk w b = K
  generalize hv : val_main_v23 x Wv w b = V
  pointwise [val_main_v31, val_main_v30, val_main_v29, val_main_v28, val_main_v27, val_main_v26, val_main_v25, val_main_v24, hk, hv]

/-- The state after step `t`. -/
theorem state_apply (k v : ℕ → Fin 2048 → ℝ) (hk : ∀ t c, AttnSpec.proj x w b Wk t c = (k t.val c : EReal))
    (hv : ∀ t c, AttnSpec.proj x w b Wv t c = (v t.val c : EReal)) (t : Fin 4096) (h : Fin 32) (i j : Fin 64) :
    val_main_v35 x st Wk Wv g w b (ix4 t h i j)
      = st (ix3 h i j) + ∑ u ∈ range (t.val + 1), (g (ix2 h i) + (k u (col h i) : EReal) * (v u (col h j) : EReal)) := by
  have e : val_main_v32 x Wk Wv g w b (ix4 t h i j)
      = ∑ u ∈ range (t.val + 1), (g (ix2 h i) + (k u (col h i) : EReal) * (v u (col h j) : EReal)) := by
    unfold val_main_v32
    refine AttnCumsum.cumsum_apply _ _ (fun i => ?_) _ _ (fun u => g (ix2 h i) + (k u (col h i) : EReal) * (v u (col h j) : EReal)) t h i j
      fun u => ?_
    · rw [val_main_call1_call0_v0_apply, val_main_call1_call0_cst_apply]
      exact Ideal.ofBits_zero .f32
    · rw [upd_apply, hk, hv]
  rw [← e]
  generalize hC : val_main_v32 x Wk Wv g w b = C
  pointwise [val_main_v35, val_main_v34, val_main_v33, hC]

/-- A row of the reference's first result. -/
theorem row_apply (q k v : ℕ → Fin 2048 → ℝ) (hq : ∀ t c, AttnSpec.proj x w b Wq t c = (q t.val c : EReal))
    (hk : ∀ t c, AttnSpec.proj x w b Wk t c = (k t.val c : EReal)) (hv : ∀ t c, AttnSpec.proj x w b Wv t c = (v t.val c : EReal))
    (t : Fin 4096) (h : Fin 32) (i : Fin 64) :
    val_main_v38 x st Wq Wk Wv g w b (ix2 t (col h i)) = AttnSpec.rowAt x st g q k v t h i := by
  rw [AttnSpec.rowAt]
  simp only [← state_apply x st Wk Wv g w b k v hk hv, ← hq, ← q_apply]
  have e : val_main_v37 x st Wq Wk Wv g w b (ix2 t (col h i)) = val_main_v36 x st Wq Wk Wv g w b (ix3 t h i) := by
    rw [val_main_v37_apply]
    refine congrArg _ (funext fun d => Fin.ext ?_)
    fin_cases d
    · show (t.val * 2048 + (64 * h.val + i.val)) / 2048 = t.val
      omega
    · show (t.val * 2048 + (64 * h.val + i.val)) / 64 % 32 = h.val
      omega
    · show (t.val * 2048 + (64 * h.val + i.val)) % 64 = i.val
      omega
  rw [val_main_v38_apply, e, val_main_v36_apply]
  refine congrArg (x (ix2 t (col h i)) + ·) (sum_congr rfl fun j _ => ?_)
  refine congrArg₂ (· * ·) (congrArg _ (funext fun d => ?_)) (congrArg _ (funext fun d => ?_))
  · fin_cases d <;> rfl
  · fin_cases d <;> rfl

/-- The reference's second result. -/
theorem final_apply (k v : ℕ → Fin 2048 → ℝ) (hk : ∀ t c, AttnSpec.proj x w b Wk t c = (k t.val c : EReal))
    (hv : ∀ t c, AttnSpec.proj x w b Wv t c = (v t.val c : EReal)) (h : Fin 32) (i j : Fin 64) :
    val_main_v40 x st Wk Wv g w b (ix3 h i j) = AttnSpec.finalAt st g k v h i j := by
  refine Eq.trans ?_ (state_apply x st Wk Wv g w b k v hk hv ⟨4095, by omega⟩ h i j)
  generalize hC : val_main_v35 x st Wk Wv g w b = C
  pointwise [val_main_v40, val_main_v39, hC]

end AttnReference
-- ==== Proof.AttnParams.lean ====
/-
  The precondition of the attention's value claim, read: every entry of the six parameter arrays is a real number.
-/
module

public import proofs.«01_k».proof.Pre_finite_parameters
public import proofs.«01_k».proof.Proof.AttnFinite
public import Idealize.ShloMosaic.Lib.ReduceAll
public import Idealize.ShloMosaic.Lib.Affine
public import Idealize.ShloMosaic.Lib.Decide

@[expose] public section

noncomputable section

namespace AttnParams

open Idealize.ShloMosaic Cert.Pre_finite_parameters AttnFinite

/-- The side conditions of the precondition's operations. -/
instance facts : Cert.Pre_finite_parameters.Facts where
  bcast_S_S2048x2048 := by decide
  reducesTo_S2048x2048_S_d0_1 := by decide
  h_S_ := by decide
  bcast_S_S32x64 := by decide
  reducesTo_S32x64_S_d0_1 := by decide
  bcast_S_S2048 := by decide
  reducesTo_S2048_S_d0 := by decide

/-- A number whose absolute value lies below infinity is real. -/
theorem real_of_lt (x : EReal) (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  induction x using EReal.rec with
  | bot => simp [Ideal.cmp] at h
  | top => simp [Ideal.cmp] at h
  | coe r => exact ⟨r, rfl⟩

/-- Where the conjunction over an array says that every absolute value lies below infinity, every entry is real. -/
theorem all_real {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) hr hu j = 1#1) (i : s.Idx) : IsReal (x i) := by
  haveI : Subsingleton S_.Idx := ⟨fun a b => funext fun k => k.elim0⟩
  exact real_of_lt _ (Host.reduce_andi_all _ _ hr hu j e i)

/-- The precondition holds only where all the parameters are real. -/
theorem real (x : FVec Ideal S4096x2048 .f32) (st : FVec Ideal S32x64x64 .f32) (Wq Wk Wv : FVec Ideal S2048x2048 .f32)
    (g : FVec Ideal S32x64 .f32) (w b : FVec Ideal S2048 .f32) (h : fn (F := Ideal) x st Wq Wk Wv g w b = fun _ => 1#1) :
    (∀ i, IsReal (Wq i)) ∧ (∀ i, IsReal (Wk i)) ∧ (∀ i, IsReal (Wv i)) ∧ (∀ i, IsReal (g i)) ∧ (∀ i, IsReal (w i)) ∧ ∀ i, IsReal (b i) := by
  have e := congrFun h (fun k => k.elim0)
  simp only [fn, fn_part1, andi, IntOp.andi_eq_one] at e
  obtain ⟨⟨⟨⟨⟨h2, h3⟩, h4⟩, h5⟩, h6⟩, h7⟩ := e
  exact ⟨all_real Wq _ _ _ _ h2, all_real Wk _ _ _ _ h3, all_real Wv _ _ _ _ h4, all_real g _ _ _ _ h5, all_real w _ _ _ _ h6,
    all_real b _ _ _ _ h7⟩

end AttnParams
-- ==== Proof.AttnClaim.lean ====
/-
  The attention kernel computes its reference wherever the parameters are finite: the result rows and the final state of both
  are those of `AttnSpec`.
-/
module

public import proofs.«01_k».proof.Defs
public import proofs.«01_k».proof.Proof.AttnArray
public import proofs.«01_k».proof.Proof.AttnReference
public import proofs.«01_k».proof.Proof.AttnParams
public import proofs.«01_k».proof.Proof.Gen.ReferenceIdeal.Run
public import Idealize.ShloMosaic.Lib.Quiescent

@[expose] public section

set_option maxRecDepth 16384

noncomputable section

namespace AttnClaim

open Idealize.ShloMosaic Idealize.ShloMosaic.TcCoe Idealize.SL.Sem AttnFinite

/-- A projection whose every entry is real, in numbers. -/
theorem num_of_real (x : Vec Ideal Cert.KernelIdeal.S4096x2048 .f32) (w b : Vec Ideal Cert.KernelIdeal.S2048 .f32)
    (W : Vec Ideal Cert.KernelIdeal.S2048x2048 .f32) (hw : ∀ i, IsReal (w i)) (hb : ∀ i, IsReal (b i)) (hW : ∀ i, IsReal (W i))
    (t : Fin 4096) (c : Fin 2048) : AttnSpec.proj x w b W t c = (AttnSpec.num (AttnSpec.proj x w b W) t.val c : EReal) :=
  AttnSpec.num_eq _ t c (AttnSpec.proj_real x w b W hw hb hW t c)

/-- The reference's first result as an array. -/
theorem rows_eq (x : Vec Ideal Cert.KernelIdeal.S4096x2048 .f32) (st : Vec Ideal Cert.KernelIdeal.S32x64x64 .f32)
    (Wq Wk Wv : Vec Ideal Cert.KernelIdeal.S2048x2048 .f32) (g : Vec Ideal Cert.KernelIdeal.S32x64 .f32)
    (w b : Vec Ideal Cert.KernelIdeal.S2048 .f32) (hq : ∀ i, IsReal (Wq i)) (hk : ∀ i, IsReal (Wk i)) (hv : ∀ i, IsReal (Wv i))
    (hw : ∀ i, IsReal (w i)) (hb : ∀ i, IsReal (b i)) :
    Cert.ReferenceIdeal.Read.val_main_v38 (F := Ideal) x st Wq Wk Wv g w b
      = AttnSpec.rows x st g (AttnSpec.num (AttnSpec.proj x w b Wq)) (AttnSpec.num (AttnSpec.proj x w b Wk))
          (AttnSpec.num (AttnSpec.proj x w b Wv)) := by
  funext y
  idx_vars y
  obtain ⟨h, i, rfl⟩ := AttnSpec.exists_col y1
  rw [AttnSpec.rows_apply]
  exact AttnReference.row_apply x st Wq Wk Wv g w b _ _ _ (num_of_real x w b Wq hw hb hq) (num_of_real x w b Wk hw hb hk)
    (num_of_real x w b Wv hw hb hv) y0 h i

/-- The reference's second result as an array. -/
theorem state_eq (x : Vec Ideal Cert.KernelIdeal.S4096x2048 .f32) (st : Vec Ideal Cert.KernelIdeal.S32x64x64 .f32)
    (Wk Wv : Vec Ideal Cert.KernelIdeal.S2048x2048 .f32) (g : Vec Ideal Cert.KernelIdeal.S32x64 .f32)
    (w b : Vec Ideal Cert.KernelIdeal.S2048 .f32) (hk : ∀ i, IsReal (Wk i)) (hv : ∀ i, IsReal (Wv i))
    (hw : ∀ i, IsReal (w i)) (hb : ∀ i, IsReal (b i)) :
    Cert.ReferenceIdeal.Read.val_main_v40 (F := Ideal) x st Wk Wv g w b
      = AttnSpec.final st g (AttnSpec.num (AttnSpec.proj x w b Wk)) (AttnSpec.num (AttnSpec.proj x w b Wv)) := by
  funext y
  idx_vars y
  exact AttnReference.final_apply x st Wk Wv g w b _ _ (num_of_real x w b Wk hw hb hk) (num_of_real x w b Wv hw hb hv) y0 y1 y2

/-- The precondition makes the parameters on every device real. -/
theorem real_of_pre (m : (ℓ : Loc Cert.KernelIdeal.nD Cert.KernelIdeal.τ Cert.KernelIdeal.sig) → Buf (Elt Ideal) ℓ)
    (h : Cert.Pre_KernelIdeal_finite_parameters m) (c : Dev Cert.KernelIdeal.nD) : AttnArray.Real m c := by
  obtain ⟨h2, h3, h4, h5, h6, h7⟩ := AttnParams.real _ _ _ _ _ _ _ _ (h c)
  exact ⟨h2, h3, h4, h5, h6, h7⟩

/-- From equal arguments, with finite parameters, the attention kernel and its reference end with equal results. -/
theorem algebraic [Cert.KernelIdeal.Facts] [Cert.ReferenceIdeal.Facts] :
    Cert.algebraic_KernelIdeal_ReferenceIdeal_pre_finite_parameters := by
  intro m ρ m' ρ' hpre hagree
  refine ⟨fun c => (Cert.KernelIdeal.Gen.dats m 0 c).arrAt 9 Cert.KernelIdeal.cfg0.N,
    fun c => (Cert.KernelIdeal.Gen.dats m 0 c).arrAt 10 Cert.KernelIdeal.cfg0.N, Cert.KernelIdeal.Value.run_blocks m ρ,
    (θ_run _ _ _).mono (fun r h c => ⟨(h c).1.trans ?_, (h c).2.1.trans ?_, (h c).2.2⟩) (Cert.ReferenceIdeal.Value.run (F := Ideal) m' ρ')⟩
  · have hr := real_of_pre m hpre c
    obtain ⟨h0, h1, h2, h3, h4, h5, h6, h7⟩ := hagree c
    rw [Cert.ReferenceIdeal.Read.val_main_v38_eq, h0, h1, h2, h3, h4, h5, h6, h7]
    exact (rows_eq _ _ _ _ _ _ _ _ hr.wq hr.wk hr.wv hr.lw hr.lb).trans (AttnArray.rows_final m c hr).symm
  · have hr := real_of_pre m hpre c
    obtain ⟨h0, h1, h2, h3, h4, h5, h6, h7⟩ := hagree c
    rw [Cert.ReferenceIdeal.Read.val_main_v40_eq, h0, h1, h3, h4, h5, h6, h7]
    exact (state_eq _ _ _ _ _ _ _ hr.wk hr.wv hr.lw hr.lb).trans (AttnArray.state_final m c hr).symm

end AttnClaim
-- ==== Proof.MlpBlock.lean ====
/-
  What one grid point of the feed-forward kernel computes: each of the 512 rows of its block goes through `Rows.mlp`.
-/
module

public import proofs.«01_k».proof.Proof.Gen.MlpIdeal.Value
public import proofs.«01_k».proof.Proof.Rows
public import Idealize.ShloMosaic.Lib.Pipeline.ValueKit
public import Idealize.ShloMosaic.Lib.Pointwise

@[expose] public section

set_option maxRecDepth 16384

noncomputable section

namespace MlpBlock

open Cert.MlpIdeal Cert.MlpIdeal.Gen Idealize.ShloMosaic Idealize.ShloMosaic.TcCoe Idealize.SL.Sem

/-- The stored scratch block is the normalised block, row by row. -/
theorem pay2_apply (y : Vec Ideal S512x2048 .f32) (w b : Vec Ideal S1x2048 .f32) (r : Fin 512) (j : Fin 2048) :
    k0_pay2 y w b (ix2 r j)
      = Rows.norm (fun k => y (ix2 r k)) (fun k => w (ix2 0 k)) (fun k => b (ix2 0 k)) j := by
  pointwise [k0_pay2, Rows.norm, Rows.var, Rows.mean]

/-- Row `r` of what point `t` leaves in the result block is the feed-forward step on row `r` of its input block. -/
theorem after_eq (m : (ℓ : Loc nD τ sig) → Buf (Elt Ideal) ℓ) (c : Dev nD) (t : Fin cfg0.N) (r : Fin 512) (j : Fin 2048) :
    outsAt0 m c t (ix2 r j)
      = Rows.mlp (fun k => (iblk m c 0 t : Vec Ideal S512x2048 .f32) (ix2 r k)) (fun k => (iblk m c 3 t : Vec Ideal S1x2048 .f32) (ix2 0 k))
          (fun k => (iblk m c 4 t : Vec Ideal S1x2048 .f32) (ix2 0 k)) (fun k l => (iblk m c 1 t : Vec Ideal S2048x4096 .bf16) (ix2 k l))
          (fun k l => (iblk m c 2 t : Vec Ideal S2048x2048 .bf16) (ix2 k l)) j := by
  rw [outsAt0]
  frame_out
  rw [Rows.mlp]
  simp only [← pay2_apply]
  generalize k0_pay2 (iblk m c 0 t) (iblk m c 3 t) (iblk m c 4 t) = X
  generalize (iblk m c 0 t : Vec Ideal S512x2048 .f32) = y
  generalize (iblk m c 1 t : Vec Ideal S2048x4096 .bf16) = Wg
  generalize (iblk m c 2 t : Vec Ideal S2048x2048 .bf16) = Wd
  rw [Rows.sum_quarters]
  pointwise [k0_pay1, k0_pay3, k0_pay4, k0_pay5, k0_pay6, k0_pay7, k0_pay8, k0_pay9, k0_pay10, k0_pay11, Rows.act]
  simp only [← add_assoc]

end MlpBlock
-- ==== Proof.MlpArray.lean ====
/-
  What the feed-forward kernel's result array holds after the run: `Rows.mlp` of each row of the arguments.
-/
module

public import proofs.«01_k».proof.Proof.MlpBlock
public import Idealize.ShloMosaic.Lib.Claim

@[expose] public section

set_option maxRecDepth 16384

noncomputable section

namespace MlpArray

open Cert.MlpIdeal Cert.MlpIdeal.Gen Idealize.ShloMosaic Idealize.ShloMosaic.TcCoe Idealize.SL.Sem

/-- The feed-forward step on row `i 0`, of whole arrays. -/
def spec (y : Vec Ideal S4096x2048 .f32) (Wg : Vec Ideal S2048x4096 .f32) (Wd : Vec Ideal S2048x2048 .f32)
    (w b : Vec Ideal S2048 .f32) : Vec Ideal S4096x2048 .f32 := fun i =>
  Rows.mlp (fun k => y (ix2 (i 0) k)) (fun k => w (ix1 k)) (fun k => b (ix1 k)) (fun k l => Wg (ix2 k l))
    (fun k l => Wd (ix2 k l)) (i 1)

/-- Where each point's blocks lie: the input rows and the result rows move together, the rest is read whole. -/
theorem idx : ∀ t : Fin cfg0.N, win0_0.index t 0 = t ∧ win0_0.index t 1 = 0 ∧ win0_1.index t 0 = 0 ∧ win0_1.index t 1 = 0
    ∧ win0_2.index t 0 = 0 ∧ win0_2.index t 1 = 0 ∧ win0_3.index t 1 = 0 ∧ win0_4.index t 1 = 0
    ∧ win0_5.index t 0 = t ∧ win0_5.index t 1 = 0 := by decide +kernel

/-- The result array after the run is the feed-forward step of the arguments. -/
theorem final (m : (ℓ : Loc nD τ sig) → Buf (Elt Ideal) ℓ) (c : Dev nD) :
    (dats m 0 c).arrAt 5 cfg0.N = spec (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  idx_vars y
  blk_simp
  rw [after0_5, MlpBlock.after_eq, spec]
  simp only [Rows.mlp, Rows.norm, Rows.var, Rows.mean]
  blk_point [iblk, V, idx t]

end MlpArray
-- ==== Proof.MlpReference.lean ====
/-
  What the feed-forward reference computes: `Rows.mlp` of each row of its arguments.
-/
module

public import proofs.«01_k».proof.Proof.Gen.MlpRefIdeal.Read
public import proofs.«01_k».proof.Proof.Rows
public import Idealize.ShloMosaic.Lib.Pointwise

@[expose] public section

set_option maxRecDepth 16384

noncomputable section

namespace MlpReference

open Cert.MlpRefIdeal Cert.MlpRefIdeal.Read Idealize.ShloMosaic

variable (y : Vec Ideal S4096x2048 .f32) (Wg : Vec Ideal S2048x4096 .f32) (Wd : Vec Ideal S2048x2048 .f32)
    (w b : Vec Ideal S2048 .f32)

/-- The constant 2048 less the integer zero is 2048. -/
theorem count_eq (i : S_.Idx) : val_main_call0_v8 (F := Ideal) i = Ideal.ofBits .f32 0x45000000#32 := by
  pointwise [val_main_call0_v8, val_main_call0_v7, val_main_call0_cst_1, val_main_c]
  have h : FloatOps.sitofp (F := Ideal) .f32 (0#32) = 0 := by
    show (((0#32 : BitVec 32).toInt : ℝ) : EReal) = 0
    simp
  rw [h, sub_zero]

/-- The variance: the row count is positive, so the quotient is taken. -/
theorem var_apply (r : Fin 4096) :
    val_main_v4 y (ix2 r 0) = Rows.var (fun k => y (ix2 r k)) := by
  pointwise [val_main_v4, val_main_call0_v13, val_main_call0_v12, val_main_call0_v11, val_main_call0_v10, val_main_call0_v9, val_main_call0_v6, val_main_call0_v5, val_main_call0_v4, val_main_call0_v3, val_main_call0_v2, val_main_call0_v1, val_main_call0_v0, val_main_call0_cst_2,
    val_main_call0_cst_3, val_main_call0_cst, val_main_call0_cst_0, count_eq, Rows.var, Rows.mean]
  rw [if_pos (by rw [Rows.ofBits_2048]; exact_mod_cast (by norm_num : (0 : ℝ) < 2048))]

/-- A row of the reference's normalised array. -/
theorem norm_apply (r : Fin 4096) (j : Fin 2048) :
    val_main_v17 y w b (ix2 r j) = Rows.norm (fun k => y (ix2 r k)) (fun k => w (ix1 k)) (fun k => b (ix1 k)) j := by
  pointwise [val_main_v17, val_main_v16, val_main_v15, val_main_v14, val_main_v13, val_main_v12, val_main_v11, val_main_v10, val_main_v9, val_main_v8, val_main_v7, val_main_v6, val_main_v5, val_main_v3, val_main_v2, val_main_v1, val_main_v0, val_main_cst, val_main_cst_0, val_main_cst_1, var_apply, Rows.norm, Rows.mean]

/-- The reference's result at row `r`. -/
theorem out_apply (r : Fin 4096) (j : Fin 2048) :
    val_main_v30 y Wg Wd w b (ix2 r j)
      = Rows.mlp (fun k => y (ix2 r k)) (fun k => w (ix1 k)) (fun k => b (ix1 k)) (fun k l => Wg (ix2 k l))
          (fun k l => Wd (ix2 k l)) j := by
  simp only [Rows.mlp, Rows.act_eq, ← norm_apply]
  pointwise [val_main_v30, val_main_v29, val_main_v28, val_main_v27, val_main_v26, val_main_v25, val_main_v24, val_main_v23,
    val_main_v22, val_main_v21, val_main_v20, val_main_v19, val_main_v18, val_main_cst_2, val_main_cst_3,
    val_main_call1_v5, val_main_call1_v4, val_main_call1_v3, val_main_call1_v2, val_main_call1_v1, val_main_call1_v0,
    val_main_call1_cst, val_main_call1_cst_0]

end MlpReference
-- ==== Proof.MlpClaim.lean ====
/-
  The feed-forward kernel computes its reference: both results are `Rows.mlp` of every row of the arguments.
-/
module

public import proofs.«01_k».proof.Defs
public import proofs.«01_k».proof.Proof.MlpArray
public import proofs.«01_k».proof.Proof.MlpReference
public import proofs.«01_k».proof.Proof.Gen.MlpRefIdeal.Run
public import Idealize.ShloMosaic.Lib.Quiescent

@[expose] public section

set_option maxRecDepth 16384

noncomputable section

namespace MlpClaim

open Idealize.ShloMosaic Idealize.ShloMosaic.TcCoe Idealize.SL.Sem

/-- The reference's result as an array is the feed-forward step of its arguments. -/
theorem reference_eq (y : Vec Ideal Cert.MlpRefIdeal.S4096x2048 .f32) (Wg : Vec Ideal Cert.MlpRefIdeal.S2048x4096 .f32)
    (Wd : Vec Ideal Cert.MlpRefIdeal.S2048x2048 .f32) (w b : Vec Ideal Cert.MlpRefIdeal.S2048 .f32) :
    Cert.MlpRefIdeal.Read.val_main_v30 (F := Ideal) y Wg Wd w b = MlpArray.spec y Wg Wd w b := by
  funext i
  idx_vars i
  rw [MlpReference.out_apply]
  rfl

/-- The feed-forward reference leaves its arguments as they were and every semaphore at zero. -/
theorem reference_frame [Cert.MlpRefIdeal.Facts] : Cert.quiescent_MlpRefIdeal := fun m ρ _ =>
  (θ_run _ _ _).mono (fun r h => ⟨fun c => (h c).2, Idealize.ShloMosaic.sem_eq_zero_of_no_sems (by decide) r.2⟩)
    (Cert.MlpRefIdeal.Value.run (F := Ideal) m ρ)

/-- From equal arguments the feed-forward kernel and its reference end with equal results. -/
theorem algebraic [Cert.MlpIdeal.Facts] [Cert.MlpRefIdeal.Facts] : Cert.algebraic_MlpIdeal_MlpRefIdeal := by
  intro m ρ m' ρ' _ hagree
  refine ⟨fun c => (Cert.MlpIdeal.Gen.dats m 0 c).arrAt 5 Cert.MlpIdeal.cfg0.N, Cert.MlpIdeal.Value.run_blocks m ρ,
    (θ_run _ _ _).mono (fun r h c => ⟨(h c).1.trans ?_, (h c).2⟩) (Cert.MlpRefIdeal.Value.run (F := Ideal) m' ρ')⟩
  obtain ⟨h0, h1, h2, h3, h4⟩ := hagree c
  rw [Cert.MlpRefIdeal.Read.val_main_v30_eq, h0, h1, h2, h3, h4, reference_eq]
  exact (MlpArray.final m c).symm

end MlpClaim
-- ==== Proof.lean ====
/-
  The claims about the two kernels, assembled: the frames are the generated ones, the idealizations rewrite nothing,
  the value of the attention is `AttnClaim.algebraic` and that of the feed-forward step `MlpClaim.algebraic`.
-/
module

public import proofs.«01_k».proof.Defs
public import proofs.«01_k».proof.Pre_finite_parameters
public import proofs.«01_k».proof.Proof.AttnClaim
public import proofs.«01_k».proof.Proof.MlpClaim
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.KernelIdeal.Value
public import proofs.«01_k».proof.Proof.Gen.MlpIdeal.Value
public import proofs.«01_k».proof.Proof.Gen.ReferenceIdeal.Run
public import proofs.«01_k».proof.Proof.Gen.ReferenceIdeal.Read
public import proofs.«01_k».proof.Proof.Gen.MlpRefIdeal.Run
public import proofs.«01_k».proof.Proof.Gen.MlpRefIdeal.Read
public import Idealize.ShloMosaic.Adequacy
public import Idealize.ShloMosaic.Init

@[expose] public section

noncomputable section

namespace Cert.Proof

open Idealize.ShloMosaic Idealize.SL.Sem Cert.Kernel

/-- The host computation of the attention leaves its arguments as they were and every semaphore at zero. -/
theorem reference_frame [Cert.ReferenceIdeal.Facts] : Cert.quiescent_ReferenceIdeal := fun m ρ _ =>
  (θ_run _ _ _).mono (fun r h => ⟨fun c => (h c).2.2, Idealize.ShloMosaic.sem_eq_zero_of_no_sems (by decide) r.2⟩)
    (Cert.ReferenceIdeal.Value.run (F := Ideal) m ρ)

/-- All the claims. -/
theorem claim : Cert.Claim := ⟨Cert.Kernel.Gen.facts, Cert.KernelIdeal.Gen.facts, Cert.ReferenceIdeal.Gen.facts, Cert.Mlp.Gen.facts, Cert.MlpIdeal.Gen.facts, Cert.MlpRefIdeal.Gen.facts,
  AttnParams.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Mlp.Gen.frame m ρ, fun m ρ _ => Cert.MlpIdeal.Gen.frame m ρ, MlpClaim.reference_frame,
  trivial, AttnClaim.algebraic, trivial, MlpClaim.algebraic⟩

end Cert.Proof

end
